-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x1024x1024 : Shape := ⟨3, ![4, 1024, 1024]⟩
abbrev S4x1024x16 : Shape := ⟨3, ![4, 1024, 16]⟩
abbrev S1024x1024 : Shape := ⟨2, ![1024, 1024]⟩
abbrev S1024 : Shape := ⟨1, ![1024]⟩
abbrev S4x16x64x1024 : Shape := ⟨4, ![4, 16, 64, 1024]⟩
abbrev S4x16x1024x64 : Shape := ⟨4, ![4, 16, 1024, 64]⟩
abbrev S_ : Shape := ⟨0, ![]⟩
abbrev S4x1024x16x1 : Shape := ⟨4, ![4, 1024, 16, 1]⟩
abbrev S4x16x1024x16x64 : Shape := ⟨5, ![4, 16, 1024, 16, 64]⟩
abbrev S4x16x1024x16 : Shape := ⟨4, ![4, 16, 1024, 16]⟩

class Facts : Prop where
  transposes_S4x1024x1024_S4x1024x1024_0_2_1 : S4x1024x1024.Transposes [0, 2, 1] S4x1024x1024
  shapeCasts_S4x1024x1024_S4x16x64x1024 : S4x1024x1024.ShapeCasts S4x16x64x1024
  transposes_S4x16x64x1024_S4x16x1024x64_0_1_3_2 : S4x16x64x1024.Transposes [0, 1, 3, 2] S4x16x1024x64
  bcast_S_S4x1024x16 : S_.BroadcastsInDim S4x1024x16 (![] : Fin 0 → Fin S4x1024x16.rank)
  bcast_S4x1024x16_S4x1024x16x1_0_1_2 : S4x1024x16.BroadcastsInDim S4x1024x16x1 (![0, 1, 2] : Fin 3 → Fin S4x1024x16x1.rank)
  bcast_S_S4x16x1024x16 : S_.BroadcastsInDim S4x16x1024x16 (![] : Fin 0 → Fin S4x16x1024x16.rank)
  reducesTo_S4x1024x16_S_d0_1_2 : S4x1024x16.ReducesTo [0, 1, 2] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  reducesTo_S4x16x1024x16_S_d0_1_2_3 : S4x16x1024x16.ReducesTo [0, 1, 2, 3] S_
  dot_S4x1024x1024_S1024x1024_S4x1024x1024_1_1_02_0_n_n_wf : DotDims.WF S4x1024x1024 S1024x1024 S4x1024x1024 [1] [1] [0, 2] [0] [] []
  gather_S4x16x1024x64_S4x1024x16x1_S4x16x1024x16x64_14_2_0_0_2_3_116164_wf : GatherDims.WF S4x16x1024x64 S4x1024x16x1 S4x16x1024x16x64 [1, 4] [2] [0] [2] [0] 3 ![1, 16, 1, 64]
  dot_S4x16x1024x64_S4x16x1024x16x64_S4x16x1024x16_3_4_n_3_012_012_wf : DotDims.WF S4x16x1024x64 S4x16x1024x16x64 S4x16x1024x16 [3] [4] [] [3] [0, 1, 2] [0, 1, 2]

variable [Facts]

def dot_S4x1024x1024_S1024x1024_S4x1024x1024_1_1_02_0_n_n : DotDims S4x1024x1024 S1024x1024 S4x1024x1024 where
  lhsContracting := [1]
  rhsContracting := [1]
  lhsNonContracting := [0, 2]
  rhsNonContracting := [0]
  lhsBatch := []
  rhsBatch := []
  wf := dot_S4x1024x1024_S1024x1024_S4x1024x1024_1_1_02_0_n_n_wf
def gather_S4x16x1024x64_S4x1024x16x1_S4x16x1024x16x64_14_2_0_0_2_3_116164 : GatherDims S4x16x1024x64 S4x1024x16x1 S4x16x1024x16x64 where
  offsetDims := [1, 4]
  collapsedSliceDims := [2]
  operandBatchingDims := [0]
  startIndicesBatchingDims := [0]
  startIndexMap := [2]
  indexVectorDim := 3
  sliceSizes := ![1, 16, 1, 64]
  wf := gather_S4x16x1024x64_S4x1024x16x1_S4x16x1024x16x64_14_2_0_0_2_3_116164_wf
def dot_S4x16x1024x64_S4x16x1024x16x64_S4x16x1024x16_3_4_n_3_012_012 : DotDims S4x16x1024x64 S4x16x1024x16x64 S4x16x1024x16 where
  lhsContracting := [3]
  rhsContracting := [4]
  lhsNonContracting := []
  rhsNonContracting := [3]
  lhsBatch := [0, 1, 2]
  rhsBatch := [0, 1, 2]
  wf := dot_S4x16x1024x64_S4x16x1024x16x64_S4x16x1024x16_3_4_n_3_012_012_wf
def fn_part3 {F : FTy → Type} [FloatOps F] (main_v17 : FVec F S4x16x1024x16 .f32) (main_v49 : IVec S_ 1) (main_v52 : IVec S1024 1) (main_c_16 : IVec S_ 1) : IVec S_ 1 :=
  let main_v53 : IVec S_ 1 := (fun x v => Host.reduce IntOp.andi x v reducesTo_S1024_S_d0 h_S_) main_v52 main_c_16
  let main_v54 : IVec S_ 1 := andi main_v49 main_v53
  let main_cst_17 : FVec F S_ .f32 := constant S_ .f32 0x42700000#32
  let main_v55 : FVec F S4x16x1024x16 .f32 := broadcastInDim S4x16x1024x16 ![] bcast_S_S4x16x1024x16 main_cst_17
  let main_v56 : IVec S4x16x1024x16 1 := cmpf .ole main_v17 main_v55
  let main_c_18 : IVec S_ 1 := constantI S_ 1 1#1
  let main_v57 : IVec S_ 1 := (fun x v => Host.reduce IntOp.andi x v reducesTo_S4x16x1024x16_S_d0_1_2_3 h_S_) main_v56 main_c_18
  let main_v58 : IVec S_ 1 := andi main_v54 main_v57
  main_v58

def fn_part2 {F : FTy → Type} [FloatOps F] (main_arg4 : FVec F S1024x1024 .f32) (main_arg5 : FVec F S1024x1024 .f32) (main_arg6 : FVec F S1024 .f32) (main_v17 : FVec F S4x16x1024x16 .f32) (main_v34 : IVec S_ 1) (main_v35 : FVec F S1024x1024 .f32) (main_cst_9 : FVec F S_ .f32) : IVec S_ 1 :=
  let main_v36 : FVec F S1024x1024 .f32 := broadcastInDim S1024x1024 ![] bcast_S_S1024x1024 main_cst_9
  let main_v37 : IVec S1024x1024 1 := cmpf .olt main_v35 main_v36
  let main_c_10 : IVec S_ 1 := constantI S_ 1 1#1
  let main_v38 : IVec S_ 1 := (fun x v => Host.reduce IntOp.andi x v reducesTo_S1024x1024_S_d0_1 h_S_) main_v37 main_c_10
  let main_v39 : IVec S_ 1 := andi main_v34 main_v38
  let main_v40 : FVec F S1024x1024 .f32 := Host.absf main_arg4
  let main_cst_11 : FVec F S_ .f32 := constant S_ .f32 0x7F800000#32
  let main_v41 : FVec F S1024x1024 .f32 := broadcastInDim S1024x1024 ![] bcast_S_S1024x1024 main_cst_11
  let main_v42 : IVec S1024x1024 1 := cmpf .olt main_v40 main_v41
  let main_c_12 : IVec S_ 1 := constantI S_ 1 1#1
  let main_v43 : IVec S_ 1 := (fun x v => Host.reduce IntOp.andi x v reducesTo_S1024x1024_S_d0_1 h_S_) main_v42 main_c_12
  let main_v44 : IVec S_ 1 := andi main_v39 main_v43
  let main_v45 : FVec F S1024x1024 .f32 := Host.absf main_arg5
  let main_cst_13 : FVec F S_ .f32 := constant S_ .f32 0x7F800000#32
  let main_v46 : FVec F S1024x1024 .f32 := broadcastInDim S1024x1024 ![] bcast_S_S1024x1024 main_cst_13
  let main_v47 : IVec S1024x1024 1 := cmpf .olt main_v45 main_v46
  let main_c_14 : IVec S_ 1 := constantI S_ 1 1#1
  let main_v48 : IVec S_ 1 := (fun x v => Host.reduce IntOp.andi x v reducesTo_S1024x1024_S_d0_1 h_S_) main_v47 main_c_14
  let main_v49 : IVec S_ 1 := andi main_v44 main_v48
  let main_v50 : FVec F S1024 .f32 := Host.absf main_arg6
  let main_cst_15 : FVec F S_ .f32 := constant S_ .f32 0x7F800000#32
  let main_v51 : FVec F S1024 .f32 := broadcastInDim S1024 ![] bcast_S_S1024 main_cst_15
  let main_v52 : IVec S1024 1 := cmpf .olt main_v50 main_v51
  let main_c_16 : IVec S_ 1 := constantI S_ 1 1#1
  fn_part3 (F := F) main_v17 main_v49 main_v52 main_c_16

def fn_part1 {F : FTy → Type} [FloatOps F] (main_arg0 : FVec F S4x1024x1024 .f32) (main_arg1 : IVec S4x1024x16 32) (main_arg2 : FVec F S1024x1024 .f32) (main_arg3 : FVec F S1024x1024 .f32) (main_arg4 : FVec F S1024x1024 .f32) (main_arg5 : FVec F S1024x1024 .f32) (main_arg6 : FVec F S1024 .f32) (main_v17 : FVec F S4x16x1024x16 .f32) (main_v19 : IVec S4x1024x16 1) : IVec S_ 1 :=
  let main_c_2 : IVec S_ 1 := constantI S_ 1 1#1
  let main_v20 : IVec S_ 1 := (fun x v => Host.reduce IntOp.andi x v reducesTo_S4x1024x16_S_d0_1_2 h_S_) main_v19 main_c_2
  let main_c_3 : IVec S_ 32 := constantI S_ 32 1024#32
  let main_v21 : IVec S4x1024x16 32 := broadcastInDim S4x1024x16 ![] bcast_S_S4x1024x16 main_c_3
  let main_v22 : IVec S4x1024x16 1 := cmpi .slt main_arg1 main_v21
  let main_c_4 : IVec S_ 1 := constantI S_ 1 1#1
  let main_v23 : IVec S_ 1 := (fun x v => Host.reduce IntOp.andi x v reducesTo_S4x1024x16_S_d0_1_2 h_S_) main_v22 main_c_4
  let main_v24 : IVec S_ 1 := andi main_v20 main_v23
  let main_v25 : FVec F S4x1024x1024 .f32 := Host.absf main_arg0
  let main_cst_5 : FVec F S_ .f32 := constant S_ .f32 0x7F800000#32
  let main_v26 : FVec F S4x1024x1024 .f32 := broadcastInDim S4x1024x1024 ![] bcast_S_S4x1024x1024 main_cst_5
  let main_v27 : IVec S4x1024x1024 1 := cmpf .olt main_v25 main_v26
  let main_c_6 : IVec S_ 1 := constantI S_ 1 1#1
  let main_v28 : IVec S_ 1 := (fun x v => Host.reduce IntOp.andi x v reducesTo_S4x1024x1024_S_d0_1_2 h_S_) main_v27 main_c_6
  let main_v29 : IVec S_ 1 := andi main_v24 main_v28
  let main_v30 : FVec F S1024x1024 .f32 := Host.absf main_arg2
  let main_cst_7 : FVec F S_ .f32 := constant S_ .f32 0x7F800000#32
  let main_v31 : FVec F S1024x1024 .f32 := broadcastInDim S1024x1024 ![] bcast_S_S1024x1024 main_cst_7
  let main_v32 : IVec S1024x1024 1 := cmpf .olt main_v30 main_v31
  let main_c_8 : IVec S_ 1 := constantI S_ 1 1#1
  let main_v33 : IVec S_ 1 := (fun x v => Host.reduce IntOp.andi x v reducesTo_S1024x1024_S_d0_1 h_S_) main_v32 main_c_8
  let main_v34 : IVec S_ 1 := andi main_v29 main_v33
  let main_v35 : FVec F S1024x1024 .f32 := Host.absf main_arg3
  let main_cst_9 : FVec F S_ .f32 := constant S_ .f32 0x7F800000#32
  fn_part2 (F := F) main_arg4 main_arg5 main_arg6 main_v17 main_v34 main_v35 main_cst_9

def fn {F : FTy → Type} [FloatOps F] (main_arg0 : FVec F S4x1024x1024 .f32) (main_arg1 : IVec S4x1024x16 32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024 .f32) : IVec S_ 1 :=
  let main_v0 : FVec F S4x1024x1024 .f32 := (fun l r => Host.dotGeneral dot_S4x1024x1024_S1024x1024_S4x1024x1024_1_1_02_0_n_n none l r) main_arg0 main_arg2
  let main_v1 : FVec F S4x1024x1024 .f32 := (transpose S4x1024x1024 [0, 2, 1] · transposes_S4x1024x1024_S4x1024x1024_0_2_1) main_v0
  let main_v2 : FVec F S4x16x64x1024 .f32 := shapeCast S4x16x64x1024 main_v1 shapeCasts_S4x1024x1024_S4x16x64x1024
  let main_v3 : FVec F S4x1024x1024 .f32 := (fun l r => Host.dotGeneral dot_S4x1024x1024_S1024x1024_S4x1024x1024_1_1_02_0_n_n none l r) main_arg0 main_arg3
  let main_v4 : FVec F S4x1024x1024 .f32 := (transpose S4x1024x1024 [0, 2, 1] · transposes_S4x1024x1024_S4x1024x1024_0_2_1) main_v3
  let main_v5 : FVec F S4x16x64x1024 .f32 := shapeCast S4x16x64x1024 main_v4 shapeCasts_S4x1024x1024_S4x16x64x1024
  let main_v6 : FVec F S4x16x1024x64 .f32 := (transpose S4x16x1024x64 [0, 1, 3, 2] · transposes_S4x16x64x1024_S4x16x1024x64_0_1_3_2) main_v5
  let main_c : IVec S_ 32 := constantI S_ 32 0#32
  let main_v7 : IVec S4x1024x16 32 := broadcastInDim S4x1024x16 ![] bcast_S_S4x1024x16 main_c
  let main_v8 : IVec S4x1024x16 1 := cmpi .slt main_arg1 main_v7
  let main_c_0 : IVec S_ 32 := constantI S_ 32 1024#32
  let main_v9 : IVec S4x1024x16 32 := broadcastInDim S4x1024x16 ![] bcast_S_S4x1024x16 main_c_0
  let main_v10 : IVec S4x1024x16 32 := addi main_arg1 main_v9
  let main_v11 : IVec S4x1024x16 32 := select main_v8 main_v10 main_arg1
  let main_v12 : IVec S4x1024x16x1 32 := broadcastInDim S4x1024x16x1 ![0, 1, 2] bcast_S4x1024x16_S4x1024x16x1_0_1_2 main_v11
  let main_v13 : FVec F S4x16x1024x16x64 .f32 := (fun x i => Host.gather gather_S4x16x1024x64_S4x1024x16x1_S4x16x1024x16x64_14_2_0_0_2_3_116164 x i) main_v6 main_v12
  let main_v14 : FVec F S4x16x1024x64 .f32 := (transpose S4x16x1024x64 [0, 1, 3, 2] · transposes_S4x16x64x1024_S4x16x1024x64_0_1_3_2) main_v2
  let main_v15 : FVec F S4x16x1024x16 .f32 := (fun l r => Host.dotGeneral dot_S4x16x1024x64_S4x16x1024x16x64_S4x16x1024x16_3_4_n_3_012_012 none l r) main_v14 main_v13
  let main_cst : FVec F S_ .f32 := constant S_ .f32 0x41000000#32
  let main_v16 : FVec F S4x16x1024x16 .f32 := broadcastInDim S4x16x1024x16 ![] bcast_S_S4x16x1024x16 main_cst
  let main_v17 : FVec F S4x16x1024x16 .f32 := Host.divf main_v15 main_v16
  let main_c_1 : IVec S_ 32 := constantI S_ 32 0#32
  let main_v18 : IVec S4x1024x16 32 := broadcastInDim S4x1024x16 ![] bcast_S_S4x1024x16 main_c_1
  let main_v19 : IVec S4x1024x16 1 := cmpi .sge main_arg1 main_v18
  fn_part1 (F := F) main_arg0 main_arg1 main_arg2 main_arg3 main_arg4 main_arg5 main_arg6 main_v17 main_v19
-- ==== Kernel.lean ====
abbrev S4x1024x1024 : Shape := ⟨3, ![4, 1024, 1024]⟩
abbrev S4x1024x16 : Shape := ⟨3, ![4, 1024, 16]⟩
abbrev S1024x1024 : Shape := ⟨2, ![1024, 1024]⟩
abbrev S1024 : Shape := ⟨1, ![1024]⟩
abbrev S4x16x1024 : Shape := ⟨3, ![4, 16, 1024]⟩
abbrev S_ : Shape := ⟨0, ![]⟩
abbrev S1x16x1024 : Shape := ⟨3, ![1, 16, 1024]⟩
abbrev S1x256x1024 : Shape := ⟨3, ![1, 256, 1024]⟩
abbrev S16x1024 : Shape := ⟨2, ![16, 1024]⟩
abbrev S256x1024 : Shape := ⟨2, ![256, 1024]⟩
abbrev S1x1024 : Shape := ⟨2, ![1, 1024]⟩
abbrev S1x1024x1024 : Shape := ⟨3, ![1, 1024, 1024]⟩
abbrev S128x1024 : Shape := ⟨2, ![128, 1024]⟩
abbrev S1024x128 : Shape := ⟨2, ![1024, 128]⟩
abbrev S1x128x1024 : Shape := ⟨3, ![1, 128, 1024]⟩
abbrev S1024x64 : Shape := ⟨2, ![1024, 64]⟩
abbrev S64x1024 : Shape := ⟨2, ![64, 1024]⟩
abbrev S1x64x1024 : Shape := ⟨3, ![1, 64, 1024]⟩
abbrev S1024x2 : Shape := ⟨2, ![1024, 2]⟩
abbrev S1024x1 : Shape := ⟨2, ![1024, 1]⟩

abbrev nBuf : Space → Nat
  | .hbm => 21
  | .vmem => 31
  | .smem => 0
  | _ => 0

abbrev bufTy : (tb : Table) → Fin (tcTables nBuf tb) → BufTy
  | .hbm, ⟨0, _⟩ => ⟨S4x1024x1024, .f32⟩
  | .hbm, ⟨1, _⟩ => ⟨S4x1024x16, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S4x1024x1024, .f32⟩
  | .hbm, ⟨9, _⟩ => ⟨S4x16x1024, .i32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S4x1024x1024, .f32⟩
  | .hbm, ⟨15, _⟩ => ⟨S4x1024x1024, .f32⟩
  | .hbm, ⟨16, _⟩ => ⟨S4x1024x1024, .f32⟩
  | .hbm, ⟨17, _⟩ => ⟨S1024x2, .f32⟩
  | .hbm, ⟨18, _⟩ => ⟨S1024x1, .f32⟩
  | .hbm, ⟨19, _⟩ => ⟨S1024x1, .f32⟩
  | .hbm, ⟨20, _⟩ => ⟨S4x1024x1024, .f32⟩
  | .local _ .vmem, ⟨0, _⟩ => ⟨S1x16x1024, .i32⟩
  | .local _ .vmem, ⟨1, _⟩ => ⟨S1x16x1024, .i32⟩
  | .local _ .vmem, ⟨2, _⟩ => ⟨S1x256x1024, .f32⟩
  | .local _ .vmem, ⟨3, _⟩ => ⟨S1x256x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S128x1024, .f32⟩
  | .local _ .vmem, ⟨9, _⟩ => ⟨S128x1024, .f32⟩
  | .local _ .vmem, ⟨10, _⟩ => ⟨S1024x128, .f32⟩
  | .local _ .vmem, ⟨11, _⟩ => ⟨S1024x128, .f32⟩
  | .local _ .vmem, ⟨12, _⟩ => ⟨S128x1024, .f32⟩
  | .local _ .vmem, ⟨13, _⟩ => ⟨S128x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1024, .f32⟩
  | .local _ .vmem, ⟨21, _⟩ => ⟨S1x1024x1024, .f32⟩
  | .local _ .vmem, ⟨22, _⟩ => ⟨S1x1024x1024, .f32⟩
  | .local _ .vmem, ⟨23, _⟩ => ⟨S1024x2, .f32⟩
  | .local _ .vmem, ⟨24, _⟩ => ⟨S1x1024x1024, .f32⟩
  | .local _ .vmem, ⟨25, _⟩ => ⟨S1x1024x1024, .f32⟩
  | .local _ .vmem, ⟨26, _⟩ => ⟨S1024x2, .f32⟩
  | .local _ .vmem, ⟨27, _⟩ => ⟨S1024x1, .f32⟩
  | .local _ .vmem, ⟨28, _⟩ => ⟨S1024x1, .f32⟩
  | .local _ .vmem, ⟨29, _⟩ => ⟨S1x1024x1024, .f32⟩
  | .local _ .vmem, ⟨30, _⟩ => ⟨S1x1024x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== ReferenceIdeal.lean ====
abbrev S4x1024x1024 : Shape := ⟨3, ![4, 1024, 1024]⟩
abbrev S4x1024x16 : Shape := ⟨3, ![4, 1024, 16]⟩
abbrev S1024x1024 : Shape := ⟨2, ![1024, 1024]⟩
abbrev S1024 : Shape := ⟨1, ![1024]⟩
abbrev S4x16x64x1024 : Shape := ⟨4, ![4, 16, 64, 1024]⟩
abbrev S4x16x1024x64 : Shape := ⟨4, ![4, 16, 1024, 64]⟩
abbrev S_ : Shape := ⟨0, ![]⟩
abbrev S4x1024x16x1 : Shape := ⟨4, ![4, 1024, 16, 1]⟩
abbrev S4x16x1024x16x64 : Shape := ⟨5, ![4, 16, 1024, 16, 64]⟩
abbrev S4x16x1024x16 : Shape := ⟨4, ![4, 16, 1024, 16]⟩
abbrev S4x16x1024 : Shape := ⟨3, ![4, 16, 1024]⟩
abbrev S4x16x1024x1 : Shape := ⟨4, ![4, 16, 1024, 1]⟩
abbrev S1x1024x1 : Shape := ⟨3, ![1, 1024, 1]⟩

abbrev nBuf : Space → Nat
  | .hbm => 99
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x16, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S4x1024x1024, .f32⟩
  | .hbm, ⟨9, _⟩ => ⟨S4x1024x1024, .f32⟩
  | .hbm, ⟨10, _⟩ => ⟨S4x16x64x1024, .f32⟩
  | .hbm, ⟨11, _⟩ => ⟨S4x1024x1024, .f32⟩
  | .hbm, ⟨12, _⟩ => ⟨S4x1024x1024, .f32⟩
  | .hbm, ⟨13, _⟩ => ⟨S4x16x64x1024, .f32⟩
  | .hbm, ⟨14, _⟩ => ⟨S4x1024x1024, .f32⟩
  | .hbm, ⟨15, _⟩ => ⟨S4x1024x1024, .f32⟩
  | .hbm, ⟨16, _⟩ => ⟨S4x16x64x1024, .f32⟩
  | .hbm, ⟨17, _⟩ => ⟨S4x16x1024x64, .f32⟩
  | .hbm, ⟨18, _⟩ => ⟨S4x16x1024x64, .f32⟩
  | .hbm, ⟨19, _⟩ => ⟨S4x16x1024x64, .f32⟩
  | .hbm, ⟨20, _⟩ => ⟨S_, .i32⟩
  | .hbm, ⟨21, _⟩ => ⟨S4x1024x16, .i32⟩
  | .hbm, ⟨22, _⟩ => ⟨S4x1024x16, .i1⟩
  | .hbm, ⟨23, _⟩ => ⟨S_, .i32⟩
  | .hbm, ⟨24, _⟩ => ⟨S4x1024x16, .i32⟩
  | .hbm, ⟨25, _⟩ => ⟨S4x1024x16, .i32⟩
  | .hbm, ⟨26, _⟩ => ⟨S4x1024x16, .i32⟩
  | .hbm, ⟨27, _⟩ => ⟨S4x1024x16x1, .i32⟩
  | .hbm, ⟨28, _⟩ => ⟨S4x16x1024x16x64, .f32⟩
  | .hbm, ⟨29, _⟩ => ⟨S_, .i32⟩
  | .hbm, ⟨30, _⟩ => ⟨S4x1024x16, .i32⟩
  | .hbm, ⟨31, _⟩ => ⟨S4x1024x16, .i1⟩
  | .hbm, ⟨32, _⟩ => ⟨S_, .i32⟩
  | .hbm, ⟨33, _⟩ => ⟨S4x1024x16, .i32⟩
  | .hbm, ⟨34, _⟩ => ⟨S4x1024x16, .i32⟩
  | .hbm, ⟨35, _⟩ => ⟨S4x1024x16, .i32⟩
  | .hbm, ⟨36, _⟩ => ⟨S4x1024x16x1, .i32⟩
  | .hbm, ⟨37, _⟩ => ⟨S4x16x1024x16x64, .f32⟩
  | .hbm, ⟨38, _⟩ => ⟨S4x16x1024x16, .f32⟩
  | .hbm, ⟨39, _⟩ => ⟨S_, .f32⟩
  | .hbm, ⟨40, _⟩ => ⟨S4x16x1024x16, .f32⟩
  | .hbm, ⟨41, _⟩ => ⟨S4x16x1024x16, .f32⟩
  | .hbm, ⟨42, _⟩ => ⟨S_, .f32⟩
  | .hbm, ⟨43, _⟩ => ⟨S4x16x1024, .f32⟩
  | .hbm, ⟨44, _⟩ => ⟨S_, .f32⟩
  | .hbm, ⟨45, _⟩ => ⟨S4x16x1024, .f32⟩
  | .hbm, ⟨46, _⟩ => ⟨S4x16x1024, .f32⟩
  | .hbm, ⟨47, _⟩ => ⟨S4x16x1024x1, .f32⟩
  | .hbm, ⟨48, _⟩ => ⟨S4x16x1024x16, .f32⟩
  | .hbm, ⟨49, _⟩ => ⟨S4x16x1024x16, .f32⟩
  | .hbm, ⟨50, _⟩ => ⟨S4x16x1024x16, .f32⟩
  | .hbm, ⟨51, _⟩ => ⟨S_, .f32⟩
  | .hbm, ⟨52, _⟩ => ⟨S4x16x1024, .f32⟩
  | .hbm, ⟨53, _⟩ => ⟨S4x16x1024x1, .f32⟩
  | .hbm, ⟨54, _⟩ => ⟨S4x16x1024x16, .f32⟩
  | .hbm, ⟨55, _⟩ => ⟨S4x16x1024x16, .f32⟩
  | .hbm, ⟨56, _⟩ => ⟨S4x16x1024x64, .f32⟩
  | .hbm, ⟨57, _⟩ => ⟨S4x16x64x1024, .f32⟩
  | .hbm, ⟨58, _⟩ => ⟨S4x1024x1024, .f32⟩
  | .hbm, ⟨59, _⟩ => ⟨S4x1024x1024, .f32⟩
  | .hbm, ⟨60, _⟩ => ⟨S4x1024x1024, .f32⟩
  | .hbm, ⟨61, _⟩ => ⟨S_, .f32⟩
  | .hbm, ⟨62, _⟩ => ⟨S1024, .f32⟩
  | .hbm, ⟨63, _⟩ => ⟨S1x1024x1, .f32⟩
  | .hbm, ⟨64, _⟩ => ⟨S_, .f32⟩
  | .hbm, ⟨65, _⟩ => ⟨S1x1024x1, .f32⟩
  | .hbm, ⟨66, _⟩ => ⟨S1x1024x1, .f32⟩
  | .hbm, ⟨67, _⟩ => ⟨S4x1024x1024, .f32⟩
  | .hbm, ⟨68, _⟩ => ⟨S4x1024x1024, .f32⟩
  | .hbm, ⟨69, _⟩ => ⟨S4x1024x1024, .f32⟩
  | .hbm, ⟨70, _⟩ => ⟨S4x1024x1024, .f32⟩
  | .hbm, ⟨71, _⟩ => ⟨S4x1024x1024, .f32⟩
  | .hbm, ⟨72, _⟩ => ⟨S_, .f32⟩
  | .hbm, ⟨73, _⟩ => ⟨S1024, .f32⟩
  | .hbm, ⟨74, _⟩ => ⟨S1x1024x1, .f32⟩
  | .hbm, ⟨75, _⟩ => ⟨S_, .f32⟩
  | .hbm, ⟨76, _⟩ => ⟨S1x1024x1, .f32⟩
  | .hbm, ⟨77, _⟩ => ⟨S1x1024x1, .f32⟩
  | .hbm, ⟨78, _⟩ => ⟨S4x1024x1024, .f32⟩
  | .hbm, ⟨79, _⟩ => ⟨S4x1024x1024, .f32⟩
  | .hbm, ⟨80, _⟩ => ⟨S_, .f32⟩
  | .hbm, ⟨81, _⟩ => ⟨S1x1024x1, .f32⟩
  | .hbm, ⟨82, _⟩ => ⟨S1x1024x1, .f32⟩
  | .hbm, ⟨83, _⟩ => ⟨S1x1024x1, .f32⟩
  | .hbm, ⟨84, _⟩ => ⟨S4x1024x1024, .f32⟩
  | .hbm, ⟨85, _⟩ => ⟨S4x1024x1024, .f32⟩
  | .hbm, ⟨86, _⟩ => ⟨S1x1024x1, .f32⟩
  | .hbm, ⟨87, _⟩ => ⟨S4x1024x1024, .f32⟩
  | .hbm, ⟨88, _⟩ => ⟨S4x1024x1024, .f32⟩
  | .hbm, ⟨89, _⟩ => ⟨S1x1024x1, .f32⟩
  | .hbm, ⟨90, _⟩ => ⟨S4x1024x1024, .f32⟩
  | .hbm, ⟨91, _⟩ => ⟨S4x1024x1024, .f32⟩
  | .hbm, ⟨92, _⟩ => ⟨S_, .f32⟩
  | .hbm, ⟨93, _⟩ => ⟨S4x1024x1024, .f32⟩
  | .hbm, ⟨94, _⟩ => ⟨S4x1024x1024, .i1⟩
  | .hbm, ⟨95, _⟩ => ⟨S_, .f32⟩
  | .hbm, ⟨96, _⟩ => ⟨S4x1024x1024, .f32⟩
  | .hbm, ⟨97, _⟩ => ⟨S4x1024x1024, .f32⟩
  | .hbm, ⟨98, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Proof.Spec.lean ====
/- The mathematics of graph attention over the real numbers: what the kernel sums and what the reference sums, and the
   equations between the two. Nothing here mentions a program. -/
module

public import Mathlib.Data.EReal.Operations
public import Mathlib.Analysis.SpecialFunctions.Exp
public import Mathlib.Algebra.BigOperators.Field
public import Mathlib.Algebra.BigOperators.Fin
public import Mathlib.Tactic.Ring
public import Mathlib.Tactic.FieldSimp
public import Mathlib.Tactic.Positivity

@[expose] public section

noncomputable section

namespace Cert.Spec

open scoped BigOperators

/-- A batch of four real 1024 × 1024 matrices. -/
abbrev Batch := Fin 4 → Fin 1024 → Fin 1024 → ℝ
/-- A real 1024 × 1024 matrix. -/
abbrev Mat := Fin 1024 → Fin 1024 → ℝ
/-- The sixteen neighbours of each point of each batch. -/
abbrev Edges := Fin 4 → Fin 1024 → Fin 16 → Fin 1024

/-- Channel `d` of the head in which channel `c` lies (a head has 64 channels). -/
def hd (c : Fin 1024) (d : Fin 64) : Fin 1024 := ⟨64 * (c.val / 64) + d.val, by have := c.isLt; have := d.isLt; omega⟩

/-- A matrix applied to every point of every batch. -/
def proj (w : Mat) (x : Batch) : Batch := fun b c n => ∑ j, w c j * x b j n

/-- How often point `m` occurs among the neighbours of point `n`. -/
def cnt (e : Edges) : Batch := fun b m n => ∑ k : Fin 16, if e b n k = m then 1 else 0

/-- The scaled score of points `n` (query) and `m` (key) in the head of channel `c`. -/
def score (wq wk : Mat) (x : Batch) (b : Fin 4) (c m n : Fin 1024) : ℝ :=
  (∑ d : Fin 64, proj wq x b (hd c d) n * proj wk x b (hd c d) m) / 8

/-- The attention of point `n` over its sixteen neighbours, in channel `c`. -/
def att (wq wk wv : Mat) (x : Batch) (e : Edges) : Batch := fun b c n =>
  (∑ k, Real.exp (score wq wk x b c (e b n k) n) * proj wv x b c (e b n k))
    / ∑ k, Real.exp (score wq wk x b c (e b n k) n)

/-- The mean of a channel over all batches and points. -/
def mean (y : Batch) (o : Fin 1024) : ℝ := (∑ b, ∑ n, y b o n) / 4096

/-- The variance of a channel, as the mean of the squared deviations. -/
def var (y : Batch) (o : Fin 1024) : ℝ := (∑ b, ∑ n, (y b o n - mean y o) * (y b o n - mean y o)) / 4096

/-- A sum weighted by the neighbour counts is the sum over the neighbours. -/
theorem sum_cnt (e : Edges) (b : Fin 4) (n : Fin 1024) (f : Fin 1024 → ℝ) :
    ∑ m, f m * cnt e b m n = ∑ k, f (e b n k) := by
  unfold cnt
  simp only [Finset.mul_sum]
  rw [Finset.sum_comm]
  simp

/-- A point that is nobody's neighbour has count zero; a count that is not zero names a neighbour. -/
theorem exists_of_cnt_ne_zero (e : Edges) (b : Fin 4) (m n : Fin 1024) (h : cnt e b m n ≠ 0) : ∃ k, e b n k = m := by
  by_contra hne
  push Not at hne
  exact h (Finset.sum_eq_zero fun k _ => if_neg (hne k))

/-- Clamping the scores from above by 60 changes nothing under the counts, if the neighbours' scores are at most 60. -/
theorem clamp_cnt (e : Edges) (b : Fin 4) (n : Fin 1024) (s : Fin 1024 → ℝ) (hs : ∀ k, s (e b n k) ≤ 60) (m : Fin 1024) :
    Real.exp (min (s m) 60) * cnt e b m n = Real.exp (s m) * cnt e b m n := by
  by_cases h : cnt e b m n = 0
  · rw [h, mul_zero, mul_zero]
  · obtain ⟨k, rfl⟩ := exists_of_cnt_ne_zero e b m n h
    rw [min_eq_left (hs k)]

/-- The dense form of the attention — clamped scores, weighted by the counts, over every point — is the attention over
    the neighbours. -/
theorem dense_att (wq wk wv : Mat) (x : Batch) (e : Edges) (b : Fin 4) (c n : Fin 1024)
    (hs : ∀ k, score wq wk x b c (e b n k) n ≤ 60) :
    (∑ m, proj wv x b c m * (Real.exp (min (score wq wk x b c m n) 60) * cnt e b m n))
        / (∑ m, Real.exp (min (score wq wk x b c m n) 60) * cnt e b m n)
      = att wq wk wv x e b c n := by
  have h := clamp_cnt e b n (fun m => score wq wk x b c m n) hs
  simp only [h]
  rw [sum_cnt e b n fun m => Real.exp (score wq wk x b c m n)]
  have h2 : (∑ m, proj wv x b c m * (Real.exp (score wq wk x b c m n) * cnt e b m n))
      = ∑ m, (Real.exp (score wq wk x b c m n) * proj wv x b c m) * cnt e b m n :=
    Finset.sum_congr rfl fun m _ => by ring
  rw [h2, sum_cnt e b n fun m => Real.exp (score wq wk x b c m n) * proj wv x b c m]
  rfl

/-- The dense form's denominator is positive. -/
theorem dense_pos (e : Edges) (b : Fin 4) (n : Fin 1024) (s : Fin 1024 → ℝ) :
    0 < ∑ m, Real.exp (min (s m) 60) * cnt e b m n := by
  rw [sum_cnt e b n fun m => Real.exp (min (s m) 60)]
  exact Finset.sum_pos (fun k _ => Real.exp_pos _) Finset.univ_nonempty

/-- The weights of a softmax do not depend on the shift of the scores. -/
theorem softmax_shift (s v : Fin 16 → ℝ) (M : ℝ) :
    ∑ k, v k * (Real.exp (s k - M) / ∑ k', Real.exp (s k' - M)) = (∑ k, Real.exp (s k) * v k) / ∑ k, Real.exp (s k) := by
  have hM : Real.exp M ≠ 0 := (Real.exp_pos M).ne'
  have h1 : ∑ k', Real.exp (s k' - M) = (∑ k', Real.exp (s k')) / Real.exp M := by
    rw [Finset.sum_div (Finset.univ : Finset (Fin 16)) (fun k => Real.exp (s k))]
    exact Finset.sum_congr rfl fun k _ => Real.exp_sub _ _
  have h2 : (∑ k' : Fin 16, Real.exp (s k')) ≠ 0 := (Finset.sum_pos (fun k _ => Real.exp_pos _) Finset.univ_nonempty).ne'
  rw [h1, Finset.sum_div (Finset.univ : Finset (Fin 16)) (fun k => Real.exp (s k) * v k)]
  refine Finset.sum_congr rfl fun k _ => ?_
  rw [Real.exp_sub]
  field_simp

/-- The mean of the squares less the square of the mean is the mean of the squared deviations. -/
theorem var_eq (y : Batch) (o : Fin 1024) :
    (∑ b, ∑ n, y b o n * y b o n) / 4096 - mean y o * mean y o = var y o := by
  have hS : ∑ b, ∑ n, y b o n = 4096 * mean y o := by unfold mean; ring
  have h : ∑ b, ∑ n, (y b o n - mean y o) * (y b o n - mean y o)
      = (∑ b, ∑ n, y b o n * y b o n) - 2 * mean y o * (∑ b, ∑ n, y b o n) + 4096 * (mean y o * mean y o) := by
    have : ∀ (b : Fin 4) (n : Fin 1024), (y b o n - mean y o) * (y b o n - mean y o)
        = y b o n * y b o n - 2 * mean y o * y b o n + mean y o * mean y o := fun b n => by ring
    simp only [this, Finset.sum_add_distrib, Finset.sum_sub_distrib, ← Finset.mul_sum, Finset.sum_const, Finset.card_univ,
      Fintype.card_fin, nsmul_eq_mul]
    push_cast; ring
  unfold var
  rw [h, hS]; ring

/-- A variance is not negative. -/
theorem var_nonneg (y : Batch) (o : Fin 1024) : 0 ≤ var y o :=
  div_nonneg (Finset.sum_nonneg fun _ _ => Finset.sum_nonneg fun _ _ => mul_self_nonneg (y _ o _ - mean y o)) (by norm_num)

/-- Scale and shift, folded, is the normalized value times gamma plus beta; beta may be an infinity. -/
theorem affine (y mu r g : ℝ) (β : EReal) :
    ((y * (g * r) : ℝ) : EReal) + (β - ((mu * (g * r) : ℝ) : EReal)) = (((y - mu) * r * g : ℝ) : EReal) + β := by
  rw [show (y - mu) * r * g = y * (g * r) - mu * (g * r) by ring, EReal.coe_sub, sub_eq_add_neg, sub_eq_add_neg]
  rw [add_comm β, ← add_assoc]

/-- A finite sum of reals, read in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

end Cert.Spec

end
-- ==== Proof.Consts.lean ====
/- The float literals of the two programs, read as extended reals. -/
module

public import proofs.«01_k».proof.Proof.Spec
public import Idealize.ShloMosaic.PureOps.Ideal.Laws

@[expose] public section

noncomputable section

namespace Cert.Consts

open Idealize.ShloMosaic

/-- The pattern of one eighth. -/
theorem eighth : Ideal.ofBits .f32 0x3E000000#32 = ((1 / 8 : ℝ) : EReal) := by
  simp [Ideal.ofBits, Ideal.ieee, -EReal.coe_mul]; norm_num
/-- The pattern of eight. -/
theorem eight : Ideal.ofBits .f32 0x41000000#32 = ((8 : ℝ) : EReal) := by
  simp [Ideal.ofBits, Ideal.ieee, -EReal.coe_mul]; norm_num
/-- The pattern of sixty. -/
theorem sixty : Ideal.ofBits .f32 0x42700000#32 = ((60 : ℝ) : EReal) := by
  simp [Ideal.ofBits, Ideal.ieee, -EReal.coe_mul]; norm_num
/-- The pattern of 4096. -/
theorem count : Ideal.ofBits .f32 0x45800000#32 = ((4096 : ℝ) : EReal) := by
  simp [Ideal.ofBits, Ideal.ieee, -EReal.coe_mul]; norm_num
/-- The pattern of plus infinity. -/
theorem posInf : Ideal.ofBits .f32 0x7F800000#32 = ⊤ := by simp [Ideal.ofBits, Ideal.ieee]
/-- The pattern of minus infinity. -/
theorem negInf : Ideal.ofBits .f32 0xFF800000#32 = ⊥ := by simp [Ideal.ofBits, Ideal.ieee]

/-- The small number added to the variance: the literal's exact value. -/
def eps : ℝ := 10995116 * 2 ^ (-40 : ℤ)
/-- It is positive. -/
theorem eps_pos : 0 < eps := by unfold eps; positivity
/-- The pattern of that number. -/
theorem eps_eq : Ideal.ofBits .f32 0x3727C5AC#32 = ((eps : ℝ) : EReal) := by
  simp [Ideal.ofBits, Ideal.ieee, eps, -EReal.coe_mul]

/-- The slope of the leaky part: the extended real that the literal denotes. -/
def slope : EReal := Ideal.ofBits .f32 0x3E4CCCCD#32

/-- The leaky part: a value that is not negative as it is, a negative one times the slope. -/
def leaky (z : EReal) : EReal := if 0 ≤ z then z else slope * z

/-- The normalized, scaled and shifted activation, through the leaky part. -/
def normalized (y : Spec.Batch) (g : Fin 1024 → ℝ) (β : Fin 1024 → EReal) (b : Fin 4) (o n : Fin 1024) : EReal :=
  leaky ((((y b o n - Spec.mean y o) * (Real.sqrt (Spec.var y o + eps))⁻¹ * g o : ℝ) : EReal) + β o)

end Cert.Consts

end
-- ==== Proof.Blocks.lean ====
/- What one block of each of the four kernels computes, element by element, when the blocks it reads hold real numbers. -/
module

public import proofs.«01_k».proof.Proof.Gen.KernelIdeal.Skeleton
public import proofs.«01_k».proof.Proof.Spec
public import proofs.«01_k».proof.Proof.Consts
public import Idealize.ShloMosaic.Lib.Pointwise
public import Idealize.ShloMosaic.Lib.Pipeline.Value

@[expose] public section

noncomputable section

namespace Cert.KernelIdeal.Blocks

open Cert.KernelIdeal Cert.KernelIdeal.Gen Idealize.ShloMosaic
open scoped BigOperators

/-- An index of a one-batch block, by its row and point. -/
theorem ix_one {a b : ℕ} (j : (⟨3, ![1, a, b]⟩ : Shape).Idx) : j = ix3 (0 : Fin 1) (j 1) (j 2) :=
  funext fun i => Fin.ext (match i with
    | ⟨0, _⟩ => by have : (j 0).val < 1 := (j 0).isLt; show (j 0).val = 0; omega
    | ⟨1, _⟩ => rfl
    | ⟨2, _⟩ => rfl)

/-- A one-bit equality test, widened and converted, is one or zero. -/
theorem indicator (a b : BitVec 32) :
    (FloatOps.sitofp (F := Ideal) .f32 (BitVec.setWidth 32 (IntOp.cmpi .eq a b)) : EReal)
      = ((if a = b then 1 else 0 : ℝ) : EReal) := by
  show (((((BitVec.ofBool (a == b)).setWidth 32).toInt : ℤ) : ℝ) : EReal) = _
  by_cases h : a = b
  · rw [if_pos h, beq_iff_eq.mpr h]; simp
  · rw [if_neg h, beq_eq_false_iff_ne.mpr h]; simp

/-- The row number of a block of 256 rows, as the kernel computes it. -/
theorem row_word (i r : ℕ) :
    IntOp.addi (Scalar.muli (BitVec.ofNat 32 i) 256#32) (BitVec.ofNat 32 r) = BitVec.ofNat 32 (i * 256 + r) := by
  show BitVec.ofNat 32 i * BitVec.ofNat 32 256 + BitVec.ofNat 32 r = _
  rw [← BitVec.ofNat_mul, ← BitVec.ofNat_add]

/-- The count kernel's block: at row `r` and point `n`, how many of the sixteen neighbour words of `n` are the row's
    number. -/
theorem count_block (i : grid0.Coords) (v0 : Vec Ideal S1x16x1024 .i32) (r : Fin 256) (n : Fin 1024) :
    k0_pay1 (k0_pay2 v0) (k0_pay3 i) (k0_pay4 (F := Ideal) i v0) (k0_pay5 i v0) (ix3 (0 : Fin 1) r n)
      = ((∑ k : Fin 16, if v0 (ix3 (0 : Fin 1) k n) = BitVec.ofNat 32 ((i 1).val * 256 + r.val) then (1 : ℝ) else 0 : ℝ) : EReal) := by
  pointwise [k0_pay1, k0_pay2, k0_pay3, k0_pay4, k0_pay5]
  simp only [indicator, row_word, ← EReal.coe_add, EReal.coe_eq_coe_iff, Fin.sum_univ_succ]
  simp [add_assoc]

/-- One channel of one head of the attention, over real blocks: the queries are `wq` applied to `x`, the keys `wk`
    applied to `x`, the value row `wv` applied to `x`; the weights are the counts times the exponential of the
    score cut off at 60. -/
def weight (wq wk : Fin 64 → Fin 1024 → ℝ) (x C : Spec.Mat) (m n : Fin 1024) : ℝ :=
  C m n * Real.exp (min (∑ d, (∑ j, x j m * wk d j) * ∑ j, wq d j * x j n) 60)

/-- The weighted mean of the value row. -/
def headAtt (wq wk : Fin 64 → Fin 1024 → ℝ) (wv : Fin 1024 → ℝ) (x C : Spec.Mat) (n : Fin 1024) : ℝ :=
  (∑ m, (∑ j, wv j * x j m) * weight wq wk x C m n) / ∑ m, weight wq wk x C m n

/-- A minimum of reals, read in the extended reals. -/
theorem coe_min (a b : ℝ) : min (a : EReal) (b : EReal) = ((min a b : ℝ) : EReal) :=
  (EReal.coe_strictMono.monotone.map_min).symm

/-- The weights' formula over the extended reals. -/
theorem coe_weight (wq wk : Fin 64 → Fin 1024 → ℝ) (x C : Spec.Mat) (m n : Fin 1024) :
    (C m n : EReal) * Ideal.exp (min (∑ d, (∑ j, (x j m : EReal) * (wk d j : EReal)) * ∑ j, (wq d j : EReal) * (x j n : EReal))
        (Ideal.ofBits .f32 1114636288#32)) = (weight wq wk x C m n : EReal) := by
  simp only [← EReal.coe_mul, Spec.coe_sum, Consts.sixty, coe_min]
  rfl

/-- The channel's formula over the extended reals, where the weights do not sum to zero. -/
theorem coe_headAtt (wq wk : Fin 64 → Fin 1024 → ℝ) (wv : Fin 1024 → ℝ) (x C : Spec.Mat) (n : Fin 1024)
    (hpos : ∑ m, weight wq wk x C m n ≠ 0) :
    Ideal.div (∑ m, (∑ j, (wv j : EReal) * (x j m : EReal)) * (weight wq wk x C m n : EReal)) (∑ m, (weight wq wk x C m n : EReal))
      = (headAtt wq wk wv x C n : EReal) := by
  simp only [← EReal.coe_mul, Spec.coe_sum]
  rw [Ideal.div_coe hpos, ← EReal.coe_mul]
  unfold headAtt
  rw [mul_one_div]

/-- A row of the first half of a block of 128. -/
def lo (d : Fin 64) : Fin 128 := ⟨d.val, by have := d.isLt; omega⟩
/-- A row of the second half of a block of 128. -/
def hi (d : Fin 64) : Fin 128 := ⟨64 + d.val, by have := d.isLt; omega⟩

/-- The attention kernel's first store: the first head of the block of two. -/
theorem attn_block_lo {v0 v2 : Vec Ideal S1x1024x1024 .f32} {v4 : Vec Ideal S128x1024 .f32} {v7 : Vec Ideal S1024x128 .f32}
    {v10 : Vec Ideal S128x1024 .f32} {v12 : Vec Ideal S1x1024x1024 .f32} {x C : Spec.Mat} {wq wk wv : Fin 128 → Fin 1024 → ℝ}
    (h0 : ∀ j n, v0 (ix3 (0 : Fin 1) j n) = (x j n : EReal)) (h2 : ∀ m j, v2 (ix3 (0 : Fin 1) m j) = (x j m : EReal))
    (h4 : ∀ r j, v4 (ix2 r j) = (wq r j : EReal)) (h7 : ∀ j r, v7 (ix2 j r) = (wk r j : EReal))
    (h10 : ∀ r j, v10 (ix2 r j) = (wv r j : EReal)) (h12 : ∀ m n, v12 (ix3 (0 : Fin 1) m n) = (C m n : EReal))
    (d : Fin 64) (n : Fin 1024)
    (hpos : ∑ m, weight (fun d => wq (lo d)) (fun d => wk (lo d)) x C m n ≠ 0) :
    k1_pay7 v0 v2 v4 v7 v10 v12 (ix3 (0 : Fin 1) d n)
      = (headAtt (fun d => wq (lo d)) (fun d => wk (lo d)) (wv (lo d)) x C n : EReal) := by
  pointwise [k1_pay7, k1_pay6, k1_pay5, k1_pay4, k1_pay3, k1_pay2]
  simp only [h0, h2, h4, h7, h10, h12]
  rw [← coe_headAtt _ _ _ _ _ _ hpos]
  simp only [← coe_weight]
  rfl

/-- The attention kernel's second store: the second head of the block of two. -/
theorem attn_block_hi {v0 v2 : Vec Ideal S1x1024x1024 .f32} {v4 : Vec Ideal S128x1024 .f32} {v7 : Vec Ideal S1024x128 .f32}
    {v10 : Vec Ideal S128x1024 .f32} {v12 : Vec Ideal S1x1024x1024 .f32} {x C : Spec.Mat} {wq wk wv : Fin 128 → Fin 1024 → ℝ}
    (h0 : ∀ j n, v0 (ix3 (0 : Fin 1) j n) = (x j n : EReal)) (h2 : ∀ m j, v2 (ix3 (0 : Fin 1) m j) = (x j m : EReal))
    (h4 : ∀ r j, v4 (ix2 r j) = (wq r j : EReal)) (h7 : ∀ j r, v7 (ix2 j r) = (wk r j : EReal))
    (h10 : ∀ r j, v10 (ix2 r j) = (wv r j : EReal)) (h12 : ∀ m n, v12 (ix3 (0 : Fin 1) m n) = (C m n : EReal))
    (d : Fin 64) (n : Fin 1024)
    (hpos : ∑ m, weight (fun d => wq (hi d)) (fun d => wk (hi d)) x C m n ≠ 0) :
    k1_pay1 (k1_pay5 v0 v10) (k1_pay6 v12) (k1_pay8 v2 v7) (k1_pay9 v0 v4) (ix3 (0 : Fin 1) d n)
      = (headAtt (fun d => wq (hi d)) (fun d => wk (hi d)) (wv (hi d)) x C n : EReal) := by
  pointwise [k1_pay1, k1_pay8, k1_pay9, k1_pay6, k1_pay5, k1_pay4, k1_pay3, k1_pay2]
  simp only [h0, h2, h4, h7, h10, h12]
  rw [← coe_headAtt _ _ _ _ _ _ hpos]
  simp only [← coe_weight]
  rfl

/-- The output projection of one batch, over real blocks. -/
def outRow (wo a : Spec.Mat) (o n : Fin 1024) : ℝ := ∑ c, wo o c * a c n

/-- The projection kernel's first store: the projected block. -/
theorem outproj_block {v0 : Vec Ideal S1024x1024 .f32} {v1 : Vec Ideal S1x1024x1024 .f32} {wo a : Spec.Mat}
    (h0 : ∀ o c, v0 (ix2 o c) = (wo o c : EReal)) (h1 : ∀ c n, v1 (ix3 (0 : Fin 1) c n) = (a c n : EReal)) (o n : Fin 1024) :
    k2_pay2 v0 v1 (ix3 (0 : Fin 1) o n) = (outRow wo a o n : EReal) := by
  pointwise [k2_pay1, k2_pay2]
  simp only [h0, h1, ← EReal.coe_mul, Spec.coe_sum]
  rfl

/-- The projection kernel's running sums start at zero. -/
theorem outproj_zero (o : Fin 1024) (l : Fin 2) : k2_pay3 (F := Ideal) (ix2 o l) = ((0 : ℝ) : EReal) := by
  pointwise [k2_pay3]
  simp

/-- The projection kernel adds the block's row sums to the running sums. -/
theorem outproj_sum {v0 : Vec Ideal S1024x1024 .f32} {v1 : Vec Ideal S1x1024x1024 .f32} {v10 : Vec Ideal S1024x1 .f32}
    {wo a : Spec.Mat} {s : Fin 1024 → ℝ}
    (h0 : ∀ o c, v0 (ix2 o c) = (wo o c : EReal)) (h1 : ∀ c n, v1 (ix3 (0 : Fin 1) c n) = (a c n : EReal))
    (h10 : ∀ o, v10 (ix2 o (0 : Fin 1)) = (s o : EReal)) (o : Fin 1024) :
    k2_pay4 v0 v1 v10 (ix2 o (0 : Fin 1)) = ((s o + ∑ n, outRow wo a o n : ℝ) : EReal) := by
  pointwise [k2_pay1, k2_pay4]
  simp only [h0, h1, h10, ← EReal.coe_mul, Spec.coe_sum, ← EReal.coe_add]
  rfl

/-- The projection kernel adds the block's row sums of squares to the running sums of squares. -/
theorem outproj_sumsq {v0 : Vec Ideal S1024x1024 .f32} {v1 : Vec Ideal S1x1024x1024 .f32} {v10 : Vec Ideal S1024x1 .f32}
    {wo a : Spec.Mat} {s : Fin 1024 → ℝ}
    (h0 : ∀ o c, v0 (ix2 o c) = (wo o c : EReal)) (h1 : ∀ c n, v1 (ix3 (0 : Fin 1) c n) = (a c n : EReal))
    (h10 : ∀ o, v10 (ix2 o (0 : Fin 1)) = (s o : EReal)) (o : Fin 1024) :
    k2_pay5 v0 v1 v10 (ix2 o (0 : Fin 1)) = ((s o + ∑ n, outRow wo a o n * outRow wo a o n : ℝ) : EReal) := by
  pointwise [k2_pay1, k2_pay5]
  simp only [h0, h1, h10, ← EReal.coe_mul, Spec.coe_sum, ← EReal.coe_add]
  rfl

/-- The normalization kernel's store: the value less its channel's mean, times the reciprocal standard deviation and
    gamma, plus beta, through the leaky part. -/
theorem norm_block {v0 v4 v13 v16 : Vec Ideal S1024x1 .f32} {v20 : Vec Ideal S1x1024x1024 .f32} {y : Spec.Batch} {g : Fin 1024 → ℝ}
    {β : Fin 1024 → EReal} (b : Fin 4) (h0 : ∀ o, v0 (ix2 o (0 : Fin 1)) = ((∑ b, ∑ n, y b o n : ℝ) : EReal))
    (h4 : ∀ o, v4 (ix2 o (0 : Fin 1)) = ((∑ b, ∑ n, y b o n * y b o n : ℝ) : EReal))
    (h13 : ∀ o, v13 (ix2 o (0 : Fin 1)) = (g o : EReal)) (h16 : ∀ o, v16 (ix2 o (0 : Fin 1)) = β o)
    (h20 : ∀ o n, v20 (ix3 (0 : Fin 1) o n) = (y b o n : EReal)) (o n : Fin 1024) :
    k3_pay1 v0 v4 v13 v16 v20 (ix3 (0 : Fin 1) o n) = Consts.normalized y g β b o n := by
  pointwise [k3_pay1]
  have hm : (∑ b, ∑ n, y b o n) * (1 / 4096) = Spec.mean y o := by unfold Spec.mean; ring
  have hv : (∑ b, ∑ n, y b o n * y b o n) * (1 / 4096) - Spec.mean y o * Spec.mean y o = Spec.var y o := by
    rw [← Spec.var_eq]; ring
  have hp : 0 < Spec.var y o + Consts.eps := add_pos_of_nonneg_of_pos (Spec.var_nonneg y o) Consts.eps_pos
  have hc : Ideal.ofBits .f32 1166016512#32 = ((4096 : ℝ) : EReal) := Consts.count
  have he : Ideal.ofBits .f32 925353388#32 = ((Consts.eps : ℝ) : EReal) := Consts.eps_eq
  have hs : Ideal.ofBits .f32 1045220557#32 = Consts.slope := rfl
  have hr : Ideal.rsqrt ((Spec.var y o + Consts.eps : ℝ) : EReal) = (((Real.sqrt (Spec.var y o + Consts.eps))⁻¹ : ℝ) : EReal) := by
    show (if Spec.var y o + Consts.eps < 0 then ⊥ else if Spec.var y o + Consts.eps = 0 then ⊤ else _) = _
    rw [if_neg (not_lt.mpr hp.le), if_neg hp.ne']
  simp only [h0, h4, h13, h16, h20, hc, he, hs, Ideal.div_coe (show (4096 : ℝ) ≠ 0 by norm_num), ← EReal.coe_mul, hm, ← EReal.coe_sub, hv,
    ← EReal.coe_add, hr, Spec.affine]
  rfl

end Cert.KernelIdeal.Blocks

end
-- ==== Proof.CountArr.lean ====
/- What the count kernel's result array holds: how often each point is a neighbour of each point. -/
module

public import proofs.«01_k».proof.Proof.Blocks
public import proofs.«01_k».proof.Proof.Gen.KernelIdeal.Frame

@[expose] public section

noncomputable section

namespace Cert.KernelIdeal.CountArr

open Cert.KernelIdeal Cert.KernelIdeal.Gen Idealize.ShloMosaic Idealize.ShloMosaic.TcCoe
open scoped BigOperators

theorem hz : (![0, 0, 0] : Fin 3 → Nat) = fun _ => 0 := funext fun a => by fin_cases a <;> rfl

variable (V : (c : Dev nD) → (b : Ref sig .tc) → Buf (Elt Ideal) ((c : Thread nD τ).loc b))

/-- Point `t` of the grid is batch `t / 4`, row block `t % 4`. -/
theorem idx_in : ∀ t : Fin cfg0.N, win0_0.index t 0 = t.val / 4 ∧ win0_0.index t 1 = 0 ∧ win0_0.index t 2 = 0 := by
  decide +kernel
theorem idx_out : ∀ t : Fin cfg0.N, win0_1.index t 0 = t.val / 4 ∧ win0_1.index t 1 = t.val % 4 ∧ win0_1.index t 2 = 0
    ∧ (grid0.coords t 1).val = t.val % 4 := by
  decide +kernel

/-- The batch of a point. -/
def bat (t : Fin cfg0.N) : Fin 4 := ⟨t.val / 4, by have : t.val < 16 := Nat.lt_of_lt_of_eq t.isLt N_0; omega⟩
/-- Row `r` of a point's block, in the array. -/
def row (t : Fin cfg0.N) (r : Fin 256) : Fin 1024 := ⟨t.val % 4 * 256 + r.val, by have := r.isLt; omega⟩

/-- The input block is the batch's neighbour words. -/
theorem block_in (c : Dev nD) (t : Fin cfg0.N) (k : Fin 16) (n : Fin 1024) :
    iblk0 V c 0 t (ix3 (0 : Fin 1) k n) = V c main_v1 (ix3 (bat t) k n) := by
  unfold iblk0
  rw [View.read_apply]
  show V c main_v1 _ = _
  congr 1
  funext a
  apply Fin.ext
  obtain ⟨e0, e1, e2⟩ := idx_in t
  match a with
  | ⟨0, _⟩ => show win0_0.index t 0 * 1 + 1 * 0 = t.val / 4; omega
  | ⟨1, _⟩ => show win0_0.index t 1 * 16 + 1 * k.val = k.val; omega
  | ⟨2, _⟩ => show win0_0.index t 2 * 1024 + 1 * n.val = n.val; omega

/-- Where element `(0, r, n)` of the output block lies in the array. -/
theorem emb_out (t : Fin cfg0.N) (r : Fin 256) (n : Fin 1024) :
    ((cfg0.win 1).blk t).view.emb (ix3 (0 : Fin 1) r n) = ix3 (bat t) (row t r) n := by
  funext a
  apply Fin.ext
  obtain ⟨e0, e1, e2, -⟩ := idx_out t
  match a with
  | ⟨0, _⟩ => show win0_1.index t 0 * 1 + 1 * 0 = t.val / 4; omega
  | ⟨1, _⟩ => show win0_1.index t 1 * 256 + 1 * r.val = t.val % 4 * 256 + r.val; omega
  | ⟨2, _⟩ => show win0_1.index t 2 * 1024 + 1 * n.val = n.val; omega

/-- The array of the neighbour counts. -/
abbrev counts (e : Spec.Edges) (c : Dev nD) : Buf (Elt Ideal) ((c : Thread nD τ).loc main_v5) :=
  fun i => ((Spec.cnt e (i 0) (i 1) (i 2) : ℝ) : EReal)

/-- Two words below 1024 are equal just when the numbers are. -/
theorem word_eq_iff (a b : Fin 1024) : BitVec.ofNat 32 a.val = BitVec.ofNat 32 b.val ↔ a = b := by
  constructor
  · intro h
    have := congrArg BitVec.toNat h
    simp only [BitVec.toNat_ofNat] at this
    have ha := a.isLt; have hb := b.isLt
    rw [Nat.mod_eq_of_lt (by omega), Nat.mod_eq_of_lt (by omega)] at this
    exact Fin.ext this
  · rintro rfl; rfl

/-- What each point writes back is its block of the counts. -/
theorem flushed_eq (e : Spec.Edges) (c : Dev nD)
    (hE : ∀ b k n, V c main_v1 (ix3 b k n) = BitVec.ofNat 32 (e b n k).val) (t : Fin cfg0.N) :
    (dat0 V c).flushed 1 t = ((cfg0.win 1).blk t).view.read (Elt Ideal) (counts e c) := by
  show (cfg0.win 1).cut (grid0.coords t) ((dat0 V c).after 1 t) = _
  rw [after0_1]
  unfold out0_1
  rw [View.canon_unit_zero hz, View.ld_unit_zero hz]
  funext j
  rw [View.read_apply]
  obtain ⟨r, n, rfl⟩ : ∃ (r : Fin 256) (n : Fin 1024), j = ix3 (0 : Fin 1) r n :=
    ⟨j 1, j 2, Blocks.ix_one j⟩
  rw [emb_out]
  refine (Blocks.count_block (grid0.coords t) (iblk0 V c 0 t) r n).trans ?_
  show _ = ((Spec.cnt e (bat t) (row t r) n : ℝ) : EReal)
  congr 1
  unfold Spec.cnt
  refine Finset.sum_congr rfl fun k _ => ?_
  rw [block_in, hE, (idx_out t).2.2.2]
  exact if_congr (word_eq_iff (e (bat t) n k) (row t r)) rfl rfl

/-- The blocks tile the array. -/
theorem cover (i : S4x1024x1024.Idx) : ∃ t : Fin cfg0.N, (cfg0.win 1).flush t = true ∧ i ∈ ((cfg0.win 1).blk t).view.set := by
  have h0 : (i 0 : Nat) < 4 := (i 0).isLt
  have h1 : (i 1 : Nat) < 1024 := (i 1).isLt
  refine ⟨⟨(i 0).val * 4 + (i 1).val / 256, by rw [show cfg0.N = 16 from N_0]; omega⟩, flush0_1 _, ?_⟩
  refine Finset.mem_map.mpr ⟨ix3 (0 : Fin 1) ⟨(i 1).val % 256, by omega⟩ (i 2), Finset.mem_univ _, ?_⟩
  refine (emb_out _ _ _).trans (funext fun a => Fin.ext ?_)
  match a with
  | ⟨0, _⟩ => show ((i 0).val * 4 + (i 1).val / 256) / 4 = (i 0).val; omega
  | ⟨1, _⟩ => show ((i 0).val * 4 + (i 1).val / 256) % 4 * 256 + (i 1).val % 256 = (i 1).val; omega
  | ⟨2, _⟩ => rfl

/-- The count kernel's result array holds the neighbour counts. -/
theorem counts_eq (e : Spec.Edges) (c : Dev nD) (hE : ∀ b k n, V c main_v1 (ix3 b k n) = BitVec.ofNat 32 (e b n k).val) :
    (dat0 V c).arrAt 1 cfg0.N = counts e c :=
  (dat0 V c).arrAt_eq_of_cover 1 (counts e c) (fun t _ => flushed_eq V e c hE t) cover

end Cert.KernelIdeal.CountArr

end
-- ==== Proof.AttnArr.lean ====
/- What the attention kernel's result array holds: in every channel, the count-weighted mean of the value row. -/
module

public import proofs.«01_k».proof.Proof.Blocks
public import proofs.«01_k».proof.Proof.Gen.KernelIdeal.Frame

@[expose] public section

noncomputable section

namespace Cert.KernelIdeal.AttnArr

open Cert.KernelIdeal Cert.KernelIdeal.Gen Idealize.ShloMosaic Idealize.ShloMosaic.TcCoe
open Cert.KernelIdeal.Blocks (headAtt weight lo hi ix_one)
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b))

/-- Point `t` of the grid is batch `t / 8`, block of 128 channels `t % 8`: each window's block index there. -/
theorem idx0 : ∀ t : Fin cfg1.N, win1_0.index t 0 = t.val / 8 ∧ win1_0.index t 1 = 0 ∧ win1_0.index t 2 = 0 := by decide +kernel
theorem idx1 : ∀ t : Fin cfg1.N, win1_1.index t 0 = t.val / 8 ∧ win1_1.index t 1 = 0 ∧ win1_1.index t 2 = 0 := by decide +kernel
theorem idx2 : ∀ t : Fin cfg1.N, win1_2.index t 0 = t.val % 8 ∧ win1_2.index t 1 = 0 := by decide +kernel
theorem idx3 : ∀ t : Fin cfg1.N, win1_3.index t 0 = 0 ∧ win1_3.index t 1 = t.val % 8 := by decide +kernel
theorem idx4 : ∀ t : Fin cfg1.N, win1_4.index t 0 = t.val % 8 ∧ win1_4.index t 1 = 0 := by decide +kernel
theorem idx5 : ∀ t : Fin cfg1.N, win1_5.index t 0 = t.val / 8 ∧ win1_5.index t 1 = 0 ∧ win1_5.index t 2 = 0 := by decide +kernel
theorem idx6 : ∀ t : Fin cfg1.N, win1_6.index t 0 = t.val / 8 ∧ win1_6.index t 1 = t.val % 8 ∧ win1_6.index t 2 = 0 := by decide +kernel

/-- The batch of a point. -/
def bat (t : Fin cfg1.N) : Fin 4 := ⟨t.val / 8, by have : t.val < 32 := Nat.lt_of_lt_of_eq t.isLt N_1; omega⟩
/-- Channel `r` of a point's block, in the array. -/
def chan (t : Fin cfg1.N) (r : Fin 128) : Fin 1024 := ⟨t.val % 8 * 128 + r.val, by have := r.isLt; omega⟩

/-- The input blocks: of `x`, -/
theorem block0 (c : Dev nD) (t : Fin cfg1.N) (j n : Fin 1024) :
    iblk1 V c 0 t (ix3 (0 : Fin 1) j n) = V c main_arg0 (ix3 (bat t) j n) := by
  unfold iblk1
  rw [View.read_apply]
  show V c main_arg0 _ = _
  congr 1; funext a; apply Fin.ext
  obtain ⟨e0, e1, e2⟩ := idx0 t
  match a with
  | ⟨0, _⟩ => show win1_0.index t 0 * 1 + 1 * 0 = t.val / 8; omega
  | ⟨1, _⟩ => show win1_0.index t 1 * 1024 + 1 * j.val = j.val; omega
  | ⟨2, _⟩ => show win1_0.index t 2 * 1024 + 1 * n.val = n.val; omega
/-- of `x` transposed, -/
theorem block1 (c : Dev nD) (t : Fin cfg1.N) (m j : Fin 1024) :
    iblk1 V c 1 t (ix3 (0 : Fin 1) m j) = V c main_v0 (ix3 (bat t) m j) := by
  unfold iblk1
  rw [View.read_apply]
  show V c main_v0 _ = _
  congr 1; funext a; apply Fin.ext
  obtain ⟨e0, e1, e2⟩ := idx1 t
  match a with
  | ⟨0, _⟩ => show win1_1.index t 0 * 1 + 1 * 0 = t.val / 8; omega
  | ⟨1, _⟩ => show win1_1.index t 1 * 1024 + 1 * m.val = m.val; omega
  | ⟨2, _⟩ => show win1_1.index t 2 * 1024 + 1 * j.val = j.val; omega
/-- of the scaled query weights, -/
theorem block2 (c : Dev nD) (t : Fin cfg1.N) (r : Fin 128) (j : Fin 1024) :
    iblk1 V c 2 t (ix2 r j) = V c main_v3 (ix2 (chan t r) j) := by
  unfold iblk1
  rw [View.read_apply]
  show V c main_v3 _ = _
  congr 1; funext a; apply Fin.ext
  obtain ⟨e0, e1⟩ := idx2 t
  match a with
  | ⟨0, _⟩ => show win1_2.index t 0 * 128 + 1 * r.val = t.val % 8 * 128 + r.val; omega
  | ⟨1, _⟩ => show win1_2.index t 1 * 1024 + 1 * j.val = j.val; omega
/-- of the transposed key weights, -/
theorem block3 (c : Dev nD) (t : Fin cfg1.N) (j : Fin 1024) (r : Fin 128) :
    iblk1 V c 3 t (ix2 j r) = V c main_v4 (ix2 j (chan t r)) := by
  unfold iblk1
  rw [View.read_apply]
  show V c main_v4 _ = _
  congr 1; funext a; apply Fin.ext
  obtain ⟨e0, e1⟩ := idx3 t
  match a with
  | ⟨0, _⟩ => show win1_3.index t 0 * 1024 + 1 * j.val = j.val; omega
  | ⟨1, _⟩ => show win1_3.index t 1 * 128 + 1 * r.val = t.val % 8 * 128 + r.val; omega
/-- of the value weights, -/
theorem block4 (c : Dev nD) (t : Fin cfg1.N) (r : Fin 128) (j : Fin 1024) :
    iblk1 V c 4 t (ix2 r j) = V c main_arg4 (ix2 (chan t r) j) := by
  unfold iblk1
  rw [View.read_apply]
  show V c main_arg4 _ = _
  congr 1; funext a; apply Fin.ext
  obtain ⟨e0, e1⟩ := idx4 t
  match a with
  | ⟨0, _⟩ => show win1_4.index t 0 * 128 + 1 * r.val = t.val % 8 * 128 + r.val; omega
  | ⟨1, _⟩ => show win1_4.index t 1 * 1024 + 1 * j.val = j.val; omega
/-- of the counts. -/
theorem block5 (c : Dev nD) (t : Fin cfg1.N) (m n : Fin 1024) :
    iblk1 V c 5 t (ix3 (0 : Fin 1) m n) = V c main_v5 (ix3 (bat t) m n) := by
  unfold iblk1
  rw [View.read_apply]
  show V c main_v5 _ = _
  congr 1; funext a; apply Fin.ext
  obtain ⟨e0, e1, e2⟩ := idx5 t
  match a with
  | ⟨0, _⟩ => show win1_5.index t 0 * 1 + 1 * 0 = t.val / 8; omega
  | ⟨1, _⟩ => show win1_5.index t 1 * 1024 + 1 * m.val = m.val; omega
  | ⟨2, _⟩ => show win1_5.index t 2 * 1024 + 1 * n.val = n.val; omega

/-- Where element `(0, r, n)` of the output block lies in the array. -/
theorem emb_out (t : Fin cfg1.N) (r : Fin 128) (n : Fin 1024) :
    ((cfg1.win 6).blk t).view.emb (ix3 (0 : Fin 1) r n) = ix3 (bat t) (chan t r) n := by
  funext a; apply Fin.ext
  obtain ⟨e0, e1, e2⟩ := idx6 t
  match a with
  | ⟨0, _⟩ => show win1_6.index t 0 * 1 + 1 * 0 = t.val / 8; omega
  | ⟨1, _⟩ => show win1_6.index t 1 * 128 + 1 * r.val = t.val % 8 * 128 + r.val; omega
  | ⟨2, _⟩ => show win1_6.index t 2 * 1024 + 1 * n.val = n.val; omega

/-- The dense form of the attention: in channel `c` of batch `b` at point `n`, over every point, weighted by the counts. -/
def dense (wq wk wv : Spec.Mat) (x : Spec.Batch) (e : Spec.Edges) : Spec.Batch := fun b c n =>
  headAtt (fun d => wq (Spec.hd c d)) (fun d => wk (Spec.hd c d)) (wv c) (x b) (Spec.cnt e b) n

/-- The array of the dense attention. -/
abbrev attArr (wq wk wv : Spec.Mat) (x : Spec.Batch) (e : Spec.Edges) (c : Dev nD) : Buf (Elt Ideal) ((c : Thread nD τ).loc main_v6) :=
  fun i => ((dense wq wk wv x e (i 0) (i 1) (i 2) : ℝ) : EReal)

/-- Row `d` of the half in which row `r` of a block of 128 lies: a block of 128 rows is two heads. -/
def half (r : Fin 128) (d : Fin 64) : Fin 128 := ⟨64 * (r.val / 64) + d.val, by have := r.isLt; have := d.isLt; omega⟩
theorem half_lo (d' d : Fin 64) : half (lo d') d = lo d := by
  have := d'.isLt
  apply Fin.ext
  show 64 * (d'.val / 64) + d.val = d.val
  omega
theorem half_hi (d' d : Fin 64) : half (hi d') d = hi d := by
  have := d'.isLt
  apply Fin.ext
  show 64 * ((64 + d'.val) / 64) + d.val = 64 + d.val
  omega
/-- The head of a channel, within its block. -/
theorem hd_chan (t : Fin cfg1.N) (r : Fin 128) (d : Fin 64) : Spec.hd (chan t r) d = chan t (half r d) := by
  have := d.isLt; have := r.isLt
  apply Fin.ext
  show 64 * ((t.val % 8 * 128 + r.val) / 64) + d.val = t.val % 8 * 128 + (64 * (r.val / 64) + d.val)
  omega

/-- The weights of a point do not sum to zero: each has neighbours. -/
theorem weight_sum_ne (wq wk : Fin 64 → Fin 1024 → ℝ) (x : Spec.Mat) (e : Spec.Edges) (b : Fin 4) (n : Fin 1024) :
    ∑ m, weight wq wk x (Spec.cnt e b) m n ≠ 0 := by
  have h := Spec.dense_pos e b n fun m => ∑ d, (∑ j, x j m * wk d j) * ∑ j, wq d j * x j n
  refine ne_of_gt (lt_of_lt_of_eq h (Finset.sum_congr rfl fun m _ => ?_))
  unfold weight
  rw [mul_comm]

/-- The attention of row `r` of a block of two heads. -/
def rowAtt (wq wk wv : Fin 128 → Fin 1024 → ℝ) (x C : Spec.Mat) (r : Fin 128) (n : Fin 1024) : ℝ :=
  headAtt (fun d => wq (half r d)) (fun d => wk (half r d)) (wv r) x C n

/-- The two stores lie in the two halves of the block. -/
theorem emb_lo (d : Fin 64) (n : Fin 1024) : r1_3.emb (ix3 (0 : Fin 1) d n) = ix3 (0 : Fin 1) (lo d) n :=
  funext fun a => Fin.ext (match a with
    | ⟨0, _⟩ => rfl
    | ⟨1, _⟩ => by show 0 + 1 * d.val = d.val; omega
    | ⟨2, _⟩ => by show 0 + 1 * n.val = n.val; omega)
theorem emb_hi (d : Fin 64) (n : Fin 1024) : r1_4.emb (ix3 (0 : Fin 1) d n) = ix3 (0 : Fin 1) (hi d) n :=
  funext fun a => Fin.ext (match a with
    | ⟨0, _⟩ => rfl
    | ⟨1, _⟩ => by show 64 + 1 * d.val = 64 + d.val; omega
    | ⟨2, _⟩ => by show 0 + 1 * n.val = n.val; omega)

/-- What the body leaves in the output block. -/
theorem out_eq {x0 x1 : Vec Ideal S1x1024x1024 .f32} {x2 : Vec Ideal S128x1024 .f32} {x3 : Vec Ideal S1024x128 .f32}
    {x4 : Vec Ideal S128x1024 .f32} {x5 : Vec Ideal S1x1024x1024 .f32} {x C : Spec.Mat} {wq wk wv : Fin 128 → Fin 1024 → ℝ}
    (h0 : ∀ j n, x0 (ix3 (0 : Fin 1) j n) = (x j n : EReal)) (h1 : ∀ m j, x1 (ix3 (0 : Fin 1) m j) = (x j m : EReal))
    (h2 : ∀ r j, x2 (ix2 r j) = (wq r j : EReal)) (h3 : ∀ j r, x3 (ix2 j r) = (wk r j : EReal))
    (h4 : ∀ r j, x4 (ix2 r j) = (wv r j : EReal)) (h5 : ∀ m n, x5 (ix3 (0 : Fin 1) m n) = (C m n : EReal))
    (hpos : ∀ (q k : Fin 64 → Fin 1024 → ℝ) n, ∑ m, weight q k x C m n ≠ 0) (r : Fin 128) (n : Fin 1024) :
    out1_6 x0 x1 x2 x3 x4 x5 (ix3 (0 : Fin 1) r n) = ((rowAtt wq wk wv x C r n : ℝ) : EReal) := by
  unfold out1_6
  rw [View.ld_unit_zero (S := S1x1024x1024) hz3, View.ld_unit_zero (S := S1x1024x1024) hz3, View.ld_unit_zero (S := S1x1024x1024) hz3,
    View.ld_unit_zero (S := S128x1024) hz2, View.ld_unit_zero (S := S128x1024) hz2, View.ld_unit_zero (S := S1024x128) hz2]
  have khi : ∀ (d : Fin 64) (n : Fin 1024), k1_pay1 (k1_pay5 x0 x4) (k1_pay6 x5) (k1_pay8 x1 x3) (k1_pay9 x0 x2) (ix3 (0 : Fin 1) d n)
      = (fun y : S1x128x1024.Idx => ((rowAtt wq wk wv x C (y 1) (y 2) : ℝ) : EReal)) (r1_4.emb (ix3 (0 : Fin 1) d n)) := fun d n => by
    rw [emb_hi]
    refine (Blocks.attn_block_hi h0 h1 h2 h3 h4 h5 d n (hpos _ _ _)).trans ?_
    show _ = ((rowAtt wq wk wv x C (hi d) n : ℝ) : EReal)
    unfold rowAtt
    simp only [half_hi]
  have klo : ∀ (d : Fin 64) (n : Fin 1024), k1_pay7 x0 x1 x2 x3 x4 x5 (ix3 (0 : Fin 1) d n)
      = (fun y : S1x128x1024.Idx => ((rowAtt wq wk wv x C (y 1) (y 2) : ℝ) : EReal)) (r1_3.emb (ix3 (0 : Fin 1) d n)) := fun d n => by
    rw [emb_lo]
    refine (Blocks.attn_block_lo h0 h1 h2 h3 h4 h5 d n (hpos _ _ _)).trans ?_
    show _ = ((rowAtt wq wk wv x C (lo d) n : ℝ) : EReal)
    unfold rowAtt
    simp only [half_lo]
  refine (View.canon_apply_of_pieces
    (fun y : S1x128x1024.Idx => ((rowAtt wq wk wv x C (y 1) (y 2) : ℝ) : EReal)) _ ?_ _ (cover1_6 _ _ _)).trans rfl
  intro p hp
  rcases List.mem_cons.mp hp with rfl | hp
  · intro z
    obtain ⟨d, n, rfl⟩ : ∃ (d : Fin 64) (n : Fin 1024), z = ix3 (0 : Fin 1) d n := ⟨z 1, z 2, ix_one z⟩
    exact khi d n
  · obtain rfl := List.mem_singleton.mp hp
    intro z
    obtain ⟨d, n, rfl⟩ : ∃ (d : Fin 64) (n : Fin 1024), z = ix3 (0 : Fin 1) d n := ⟨z 1, z 2, ix_one z⟩
    exact klo d n

/-- What each point writes back is its block of the dense attention. -/
theorem flushed_eq {wq wk wv : Spec.Mat} {x : Spec.Batch} {e : Spec.Edges} {c : Dev nD}
    (hx : ∀ b j n, V c main_arg0 (ix3 b j n) = (x b j n : EReal)) (hxT : ∀ b m j, V c main_v0 (ix3 b m j) = (x b j m : EReal))
    (hq : ∀ o j, V c main_v3 (ix2 o j) = (wq o j : EReal)) (hk : ∀ j o, V c main_v4 (ix2 j o) = (wk o j : EReal))
    (hv : ∀ o j, V c main_arg4 (ix2 o j) = (wv o j : EReal)) (hC : ∀ b m n, V c main_v5 (ix3 b m n) = (Spec.cnt e b m n : EReal))
    (t : Fin cfg1.N) :
    (dat1 V c).flushed 6 t = ((cfg1.win 6).blk t).view.read (Elt Ideal) (attArr wq wk wv x e c) := by
  show (cfg1.win 6).cut (grid1.coords t) ((dat1 V c).after 6 t) = _
  rw [after1_6]
  funext y
  rw [View.read_apply]
  obtain ⟨r, n, rfl⟩ : ∃ (r : Fin 128) (n : Fin 1024), y = ix3 (0 : Fin 1) r n := ⟨y 1, y 2, ix_one y⟩
  rw [emb_out]
  refine (out_eq (wq := fun r => wq (chan t r)) (wk := fun r => wk (chan t r)) (wv := fun r => wv (chan t r)) (x := x (bat t))
    (C := Spec.cnt e (bat t)) (fun j n => (block0 V c t j n).trans (hx _ _ _)) (fun m j => (block1 V c t m j).trans (hxT _ _ _))
    (fun r j => (block2 V c t r j).trans (hq _ _)) (fun j r => (block3 V c t j r).trans (hk _ _))
    (fun r j => (block4 V c t r j).trans (hv _ _)) (fun m n => (block5 V c t m n).trans (hC _ _ _))
    (fun q k n => weight_sum_ne q k _ _ _ _) r n).trans ?_
  show _ = ((dense wq wk wv x e (bat t) (chan t r) n : ℝ) : EReal)
  unfold dense rowAtt
  simp only [hd_chan]

/-- The blocks tile the array. -/
theorem cover (i : S4x1024x1024.Idx) : ∃ t : Fin cfg1.N, (cfg1.win 6).flush t = true ∧ i ∈ ((cfg1.win 6).blk t).view.set := by
  have h0 : (i 0 : Nat) < 4 := (i 0).isLt
  have h1 : (i 1 : Nat) < 1024 := (i 1).isLt
  refine ⟨⟨(i 0).val * 8 + (i 1).val / 128, by rw [show cfg1.N = 32 from N_1]; omega⟩, flush1_6 _, ?_⟩
  refine Finset.mem_map.mpr ⟨ix3 (0 : Fin 1) ⟨(i 1).val % 128, by omega⟩ (i 2), Finset.mem_univ _, ?_⟩
  refine (emb_out _ _ _).trans (funext fun a => Fin.ext ?_)
  match a with
  | ⟨0, _⟩ => show ((i 0).val * 8 + (i 1).val / 128) / 8 = (i 0).val; omega
  | ⟨1, _⟩ => show ((i 0).val * 8 + (i 1).val / 128) % 8 * 128 + (i 1).val % 128 = (i 1).val; omega
  | ⟨2, _⟩ => rfl

/-- The attention kernel's result array holds the dense attention. -/
theorem att_eq {wq wk wv : Spec.Mat} {x : Spec.Batch} {e : Spec.Edges} {c : Dev nD}
    (hx : ∀ b j n, V c main_arg0 (ix3 b j n) = (x b j n : EReal)) (hxT : ∀ b m j, V c main_v0 (ix3 b m j) = (x b j m : EReal))
    (hq : ∀ o j, V c main_v3 (ix2 o j) = (wq o j : EReal)) (hk : ∀ j o, V c main_v4 (ix2 j o) = (wk o j : EReal))
    (hv : ∀ o j, V c main_arg4 (ix2 o j) = (wv o j : EReal)) (hC : ∀ b m n, V c main_v5 (ix3 b m n) = (Spec.cnt e b m n : EReal)) :
    (dat1 V c).arrAt 6 cfg1.N = attArr wq wk wv x e c :=
  (dat1 V c).arrAt_eq_of_cover 6 (attArr wq wk wv x e c) (fun t _ => flushed_eq V hx hxT hq hk hv hC t) cover

/-- The scaled query weights give the scaled score, so the dense form is the attention over the neighbours where their
    scores are at most 60. -/
theorem dense_eq (wq wk wv : Spec.Mat) (x : Spec.Batch) (e : Spec.Edges) (b : Fin 4) (c n : Fin 1024)
    (hs : ∀ k, Spec.score wq wk x b c (e b n k) n ≤ 60) :
    dense (fun o j => wq o j * (1 / 8)) wk wv x e b c n = Spec.att wq wk wv x e b c n := by
  have hsc : ∀ m, (∑ d, (∑ j, x b j m * wk (Spec.hd c d) j) * ∑ j, wq (Spec.hd c d) j * (1 / 8) * x b j n)
      = Spec.score wq wk x b c m n := fun m => by
    unfold Spec.score Spec.proj
    rw [Finset.sum_div]
    refine Finset.sum_congr rfl fun d _ => ?_
    have h1 : ∑ j, wq (Spec.hd c d) j * (1 / 8) * x b j n = (∑ j, wq (Spec.hd c d) j * x b j n) / 8 := by
      rw [Finset.sum_div]; exact Finset.sum_congr rfl fun j _ => by ring
    have h2 : ∑ j, x b j m * wk (Spec.hd c d) j = ∑ j, wk (Spec.hd c d) j * x b j m :=
      Finset.sum_congr rfl fun j _ => mul_comm _ _
    rw [h1, h2]; ring
  rw [← Spec.dense_att wq wk wv x e b c n hs]
  unfold dense headAtt weight
  simp only [hsc]
  simp only [mul_comm (Spec.cnt e b _ n)]
  rfl

end Cert.KernelIdeal.AttnArr

end
-- ==== Proof.ProjArr.lean ====
/- What the projection kernel's two result arrays hold: the projected activations, and their sums and sums of squares
   over all batches and points, accumulated batch by batch. -/
module

public import proofs.«01_k».proof.Proof.Blocks
public import proofs.«01_k».proof.Proof.Gen.KernelIdeal.Frame
public import Idealize.ShloMosaic.Lib.Pipeline.ReadBack

@[expose] public section

noncomputable section

namespace Cert.KernelIdeal.ProjArr

open Cert.KernelIdeal Cert.KernelIdeal.Gen Idealize.ShloMosaic Idealize.ShloMosaic.TcCoe
open Cert.KernelIdeal.Blocks (ix_one outRow)
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

section Body

variable (c : Dev nD) (i : grid2.Coords) (a1 : Memref sig .tc .vmem S1x1024x1024 .f32) (h1 : a1.IsWhole)
  (a2 : Memref sig .tc .vmem S1024x1024 .f32) (h2 : a2.IsWhole) (a3 : Memref sig .tc .vmem S1x1024x1024 .f32) (h3 : a3.IsWhole)
  (a4 : Memref sig .tc .vmem S1024x2 .f32) (h4 : a4.IsWhole)

/-- At the first point the body leaves the projected block in the first output's buffer, -/
theorem out_A_2 (hc : cond2_0 i) (x0 : Vec Ideal S1x1024x1024 .f32) (x1 : Vec Ideal S1024x1024 .f32) :
    out2_A_2 c i a1 h1 a2 h2 a3 h3 a4 h4 hc x0 x1 = k2_pay2 x1 x0 := by
  unfold out2_A_2
  rw [View.read_writes_eq_canon _ _ _ (cover2_A_2 c i a1 h1 a2 h2 a3 h3 a4 h4 hc x0 x1)]
  unfold kernelRun2_A
  dsimp only
  sl_unfold_words
  rw [View.canon_unit_zero hz3]
  simp only [View.readAt_eq_ld, h1.read_unread, h2.read_unread, View.ld_unit_zero (S := S1x1024x1024) hz3,
    View.ld_unit_zero (S := S1024x1024) hz2]

/-- and at every other point. -/
theorem out_B_2 (hc : ¬cond2_0 i) (x0 : Vec Ideal S1x1024x1024 .f32) (x1 : Vec Ideal S1024x1024 .f32) (xo : Vec Ideal S1024x2 .f32) :
    out2_B_2 c i a1 h1 a2 h2 a3 h3 a4 h4 hc x0 x1 xo = k2_pay2 x1 x0 := by
  unfold out2_B_2
  rw [View.read_writes_eq_canon _ _ _ (cover2_B_2 c i a1 h1 a2 h2 a3 h3 a4 h4 hc x0 x1 xo)]
  unfold kernelRun2_B
  dsimp only
  sl_unfold_words
  rw [View.canon_unit_zero hz3]
  simp only [View.readAt_eq_ld, h1.read_unread, h2.read_unread, View.ld_unit_zero (S := S1x1024x1024) hz3,
    View.ld_unit_zero (S := S1024x1024) hz2]

/-- The two columns of the sums' buffer. -/
abbrev col0 : Rect S1024x2 := Rect.unit ![0, 0] ![1024, 1] inb_S1024x2_S1024x1_0_0
abbrev col1 : Rect S1024x2 := Rect.unit ![0, 1] ![1024, 1] inb_S1024x2_S1024x1_0_1

theorem emb_col0 (o : Fin 1024) : col0.emb (ix2 o (0 : Fin 1)) = ix2 o (0 : Fin 2) :=
  funext fun a => Fin.ext (match a with
    | ⟨0, _⟩ => by show 0 + 1 * o.val = o.val; omega
    | ⟨1, _⟩ => rfl)
theorem emb_col1 (o : Fin 1024) : col1.emb (ix2 o (0 : Fin 1)) = ix2 o (1 : Fin 2) :=
  funext fun a => Fin.ext (match a with
    | ⟨0, _⟩ => by show 0 + 1 * o.val = o.val; omega
    | ⟨1, _⟩ => rfl)

/-- The second column does not hold the first's elements. -/
theorem not_mem_col1 (o : Fin 1024) : ix2 o (0 : Fin 2) ∉ col1.set := by
  intro h
  have := (Rect.mem_set_unit.mp h 1).1
  change 1 ≤ 0 at this
  omega

/-- Both columns stored, whatever was there before: the first column reads its store, -/
theorem canon_col0 (w0 w1 : Vec Ideal S1024x1 .f32) (L : List (View.Piece (Elt Ideal) S1024x2 .f32)) (o : Fin 1024) :
    View.canon (⟨col1, w1⟩ :: ⟨col0, w0⟩ :: L) (ix2 o (0 : Fin 2)) = w0 (ix2 o (0 : Fin 1)) := by
  have off := View.canon_cons_of_not_mem (⟨col1, w1⟩ : View.Piece (Elt Ideal) S1024x2 .f32) (⟨col0, w0⟩ :: L) (not_mem_col1 o)
  refine off.trans ?_
  have key := View.canon_cons_emb (Val := Elt Ideal) (e := .f32) col0 w0 L (ix2 o (0 : Fin 1))
  rwa [emb_col0] at key
/-- and the second its own. -/
theorem canon_col1 (w0 w1 : Vec Ideal S1024x1 .f32) (L : List (View.Piece (Elt Ideal) S1024x2 .f32)) (o : Fin 1024) :
    View.canon (⟨col1, w1⟩ :: ⟨col0, w0⟩ :: L) (ix2 o (1 : Fin 2)) = w1 (ix2 o (0 : Fin 1)) := by
  have key := View.canon_cons_emb (Val := Elt Ideal) (e := .f32) col1 w1 (⟨col0, w0⟩ :: L) (ix2 o (0 : Fin 1))
  rwa [emb_col1] at key

/-- Columns 0 and 1 after a point's body, over the contents `xo` before it. -/
theorem out_B_3_col0 (hc : ¬cond2_0 i) (x0 : Vec Ideal S1x1024x1024 .f32) (x1 : Vec Ideal S1024x1024 .f32) (xo : Vec Ideal S1024x2 .f32)
    (o : Fin 1024) : out2_B_3 c i a1 h1 a2 h2 a3 h3 a4 h4 hc x0 x1 xo (ix2 o (0 : Fin 2)) = k2_pay4 x1 x0 (View.ld xo col0) (ix2 o (0 : Fin 1)) := by
  unfold out2_B_3
  rw [View.read_writes_eq_canon _ _ _ (cover2_B_3 c i a1 h1 a2 h2 a3 h3 a4 h4 hc x0 x1 xo)]
  unfold kernelRun2_B
  dsimp only
  sl_unfold_words
  simp only [View.readAt_eq_ld, h1.read_unread, h2.read_unread, h4.read_unread, View.ld_unit_zero (S := S1x1024x1024) hz3,
    View.ld_unit_zero (S := S1024x1024) hz2]
  exact canon_col0 _ _ _ o

theorem out_B_3_col1 (hc : ¬cond2_0 i) (x0 : Vec Ideal S1x1024x1024 .f32) (x1 : Vec Ideal S1024x1024 .f32) (xo : Vec Ideal S1024x2 .f32)
    (o : Fin 1024) : out2_B_3 c i a1 h1 a2 h2 a3 h3 a4 h4 hc x0 x1 xo (ix2 o (1 : Fin 2)) = k2_pay5 x1 x0 (View.ld xo col1) (ix2 o (0 : Fin 1)) := by
  unfold out2_B_3
  rw [View.read_writes_eq_canon _ _ _ (cover2_B_3 c i a1 h1 a2 h2 a3 h3 a4 h4 hc x0 x1 xo)]
  unfold kernelRun2_B
  dsimp only
  sl_unfold_words
  simp only [View.readAt_eq_ld, h1.read_unread, h2.read_unread, h4.read_unread, View.ld_unit_zero (S := S1x1024x1024) hz3,
    View.ld_unit_zero (S := S1024x1024) hz2]
  exact canon_col1 _ _ _ o

/-- At the first point the same, over the zeros the body stores first. -/
theorem out_A_3_col0 (hc : cond2_0 i) (x0 : Vec Ideal S1x1024x1024 .f32) (x1 : Vec Ideal S1024x1024 .f32) (o : Fin 1024) :
    out2_A_3 c i a1 h1 a2 h2 a3 h3 a4 h4 hc x0 x1 (ix2 o (0 : Fin 2)) = k2_pay4 x1 x0 (View.ld (k2_pay3 (F := Ideal)) col0) (ix2 o (0 : Fin 1)) := by
  unfold out2_A_3
  rw [View.read_writes_eq_canon _ _ _ (cover2_A_3 c i a1 h1 a2 h2 a3 h3 a4 h4 hc x0 x1)]
  unfold kernelRun2_A
  dsimp only
  sl_unfold_words
  simp only [View.readAt_eq_ld, h1.read_unread, h2.read_unread, View.ld_unit_zero (S := S1x1024x1024) hz3,
    View.ld_unit_zero (S := S1024x1024) hz2]
  refine (canon_col0 _ _ _ o).trans ?_
  rw [View.readCov_fill (s := S1024x2) _ _ _ _ _ (fun a => congrFun hz2 a)]

theorem out_A_3_col1 (hc : cond2_0 i) (x0 : Vec Ideal S1x1024x1024 .f32) (x1 : Vec Ideal S1024x1024 .f32) (o : Fin 1024) :
    out2_A_3 c i a1 h1 a2 h2 a3 h3 a4 h4 hc x0 x1 (ix2 o (1 : Fin 2)) = k2_pay5 x1 x0 (View.ld (k2_pay3 (F := Ideal)) col1) (ix2 o (0 : Fin 1)) := by
  unfold out2_A_3
  rw [View.read_writes_eq_canon _ _ _ (cover2_A_3 c i a1 h1 a2 h2 a3 h3 a4 h4 hc x0 x1)]
  unfold kernelRun2_A
  dsimp only
  sl_unfold_words
  simp only [View.readAt_eq_ld, h1.read_unread, h2.read_unread, View.ld_unit_zero (S := S1x1024x1024) hz3,
    View.ld_unit_zero (S := S1024x1024) hz2]
  refine (canon_col1 _ _ _ o).trans ?_
  rw [View.readCov_skip _ _ _ _ _ (by decide +kernel), View.readCov_fill (s := S1024x2) _ _ _ _ _ (fun a => congrFun hz2 a)]

end Body

variable (V : (c : Dev nD) → (b : Ref sig .tc) → Buf (Elt Ideal) ((c : Thread nD τ).loc b))

/-- Point `t` of the grid is batch `t`: each window's block index there. -/
theorem idx0 : ∀ t : Fin cfg2.N, win2_0.index t 0 = t.val ∧ win2_0.index t 1 = 0 ∧ win2_0.index t 2 = 0 := by decide +kernel
theorem idx1 : ∀ t : Fin cfg2.N, win2_1.index t 0 = 0 ∧ win2_1.index t 1 = 0 := by decide +kernel
theorem idx2 : ∀ t : Fin cfg2.N, win2_2.index t 0 = t.val ∧ win2_2.index t 1 = 0 ∧ win2_2.index t 2 = 0 := by decide +kernel
theorem idx3 : ∀ t : Fin cfg2.N, win2_3.index t 0 = 0 ∧ win2_3.index t 1 = 0 := by decide +kernel

/-- The batch of a point. -/
def bat (t : Fin cfg2.N) : Fin 4 := ⟨t.val, Nat.lt_of_lt_of_eq t.isLt N_2⟩

/-- The input blocks: of the attention result, -/
theorem block0 (c : Dev nD) (t : Fin cfg2.N) (o n : Fin 1024) :
    iblk2 V c 0 t (ix3 (0 : Fin 1) o n) = V c main_v6 (ix3 (bat t) o n) := by
  unfold iblk2
  rw [View.read_apply]
  show V c main_v6 _ = _
  congr 1; funext a; apply Fin.ext
  obtain ⟨e0, e1, e2⟩ := idx0 t
  match a with
  | ⟨0, _⟩ => show win2_0.index t 0 * 1 + 1 * 0 = t.val; omega
  | ⟨1, _⟩ => show win2_0.index t 1 * 1024 + 1 * o.val = o.val; omega
  | ⟨2, _⟩ => show win2_0.index t 2 * 1024 + 1 * n.val = n.val; omega
/-- and of the weights. -/
theorem block1 (c : Dev nD) (t : Fin cfg2.N) (o l : Fin 1024) :
    iblk2 V c 1 t (ix2 o l) = V c main_arg5 (ix2 o l) := by
  unfold iblk2
  rw [View.read_apply]
  show V c main_arg5 _ = _
  congr 1; funext a; apply Fin.ext
  obtain ⟨e0, e1⟩ := idx1 t
  match a with
  | ⟨0, _⟩ => show win2_1.index t 0 * 1024 + 1 * o.val = o.val; omega
  | ⟨1, _⟩ => show win2_1.index t 1 * 1024 + 1 * l.val = l.val; omega

/-- Where element `(0, o, n)` of the first output's block lies in its array, -/
theorem emb_out2 (t : Fin cfg2.N) (o n : Fin 1024) :
    ((cfg2.win 2).blk t).view.emb (ix3 (0 : Fin 1) o n) = ix3 (bat t) o n := by
  funext a; apply Fin.ext
  obtain ⟨e0, e1, e2⟩ := idx2 t
  match a with
  | ⟨0, _⟩ => show win2_2.index t 0 * 1 + 1 * 0 = t.val; omega
  | ⟨1, _⟩ => show win2_2.index t 1 * 1024 + 1 * o.val = o.val; omega
  | ⟨2, _⟩ => show win2_2.index t 2 * 1024 + 1 * n.val = n.val; omega
/-- and element `(o, l)` of the second's. -/
theorem emb_out3 (t : Fin cfg2.N) (o : Fin 1024) (l : Fin 2) :
    ((cfg2.win 3).blk t).view.emb (ix2 o l) = ix2 o l := by
  funext a; apply Fin.ext
  obtain ⟨e0, e1⟩ := idx3 t
  match a with
  | ⟨0, _⟩ => show win2_3.index t 0 * 1024 + 1 * o.val = o.val; omega
  | ⟨1, _⟩ => show win2_3.index t 1 * 2 + 1 * l.val = l.val; omega

variable {wo : Spec.Mat} {a : Spec.Batch} {c : Dev nD}

/-- The projected activations. -/
abbrev act (wo : Spec.Mat) (a : Spec.Batch) : Spec.Batch := fun b o n => outRow wo (a b) o n

/-- The array of the projected activations. -/
abbrev actArr (wo : Spec.Mat) (a : Spec.Batch) (c : Dev nD) : Buf (Elt Ideal) ((c : Thread nD τ).loc main_v7_0) :=
  fun i => ((act wo a (i 0) (i 1) (i 2) : ℝ) : EReal)

/-- What a point leaves in the first output's buffer. -/
theorem after_act (ha : ∀ b o n, V c main_v6 (ix3 b o n) = (a b o n : EReal)) (hw : ∀ o l, V c main_arg5 (ix2 o l) = (wo o l : EReal))
    (t : Fin cfg2.N) (o n : Fin 1024) : (outsAt2 V c t.val t.isLt).1 (ix3 (0 : Fin 1) o n) = ((act wo a (bat t) o n : ℝ) : EReal) := by
  have key := Blocks.outproj_block (v0 := iblk2 V c 1 t) (v1 := iblk2 V c 0 t) (wo := wo) (a := a (bat t))
    (fun o l => (block1 V c t o l).trans (hw o l)) (fun o n => (block0 V c t o n).trans (ha _ o n)) o n
  by_cases h0 : t.val % 4 = 0
  · rw [outsAt2_A V c t h0]; dsimp only; rw [out_A_2]; exact key
  · rw [outsAt2_B V c t h0]; dsimp only; rw [out_B_2]; exact key

/-- A running sum over the batches up to `k`. -/
abbrev upto (f : Fin 4 → ℝ) (k : ℕ) : ℝ := ∑ b ∈ Finset.range (k + 1), f (Fin.ofNat 4 b)

theorem upto_three (f : Fin 4 → ℝ) : upto f 3 = ∑ b, f b := by
  rw [upto, Finset.sum_range, Fin.sum_univ_four, Fin.sum_univ_four]; rfl

/-- After point `k` the second output's buffer holds the sums and the sums of squares of the batches up to `k`. -/
theorem after_sums (ha : ∀ b o n, V c main_v6 (ix3 b o n) = (a b o n : EReal)) (hw : ∀ o l, V c main_arg5 (ix2 o l) = (wo o l : EReal)) :
    ∀ (k : ℕ) (hk : k < cfg2.N) (o : Fin 1024),
      (outsAt2 V c k hk).2 (ix2 o (0 : Fin 2)) = ((upto (fun b => ∑ n, act wo a b o n) k : ℝ) : EReal)
      ∧ (outsAt2 V c k hk).2 (ix2 o (1 : Fin 2)) = ((upto (fun b => ∑ n, act wo a b o n * act wo a b o n) k : ℝ) : EReal) := by
  intro k
  induction k with
  | zero =>
    intro hk o
    set t : Fin cfg2.N := ⟨0, hk⟩ with ht
    have hb : bat t = Fin.ofNat 4 0 := rfl
    have hx1 : ∀ o l, iblk2 V c 1 t (ix2 o l) = (wo o l : EReal) := fun o l => (block1 V c t o l).trans (hw o l)
    have hx0 : ∀ o n, iblk2 V c 0 t (ix3 (0 : Fin 1) o n) = (a (bat t) o n : EReal) := fun o n => (block0 V c t o n).trans (ha _ o n)
    have e := outsAt2_A V c t (Nat.zero_mod 4)
    have e2 := congrArg Prod.snd e
    dsimp only at e2
    rw [show outsAt2 V c 0 hk = outsAt2 V c t.val t.isLt from rfl, e2]
    constructor
    · rw [out_A_3_col0]
      refine (Blocks.outproj_sum (s := fun _ => 0) hx1 hx0 (fun o => ?_) o).trans ?_
      · show k2_pay3 (F := Ideal) (col0.emb _) = _
        rw [emb_col0]; exact Blocks.outproj_zero o 0
      · rw [hb]; simp [upto, act]
    · rw [out_A_3_col1]
      refine (Blocks.outproj_sumsq (s := fun _ => 0) hx1 hx0 (fun o => ?_) o).trans ?_
      · show k2_pay3 (F := Ideal) (col1.emb _) = _
        rw [emb_col1]; exact Blocks.outproj_zero o 1
      · rw [hb]; simp [upto, act]
  | succ k ih =>
    intro hk o
    have h4 : k + 1 < 4 := Nat.lt_of_lt_of_eq hk N_2
    set t : Fin cfg2.N := ⟨k + 1, hk⟩ with ht
    have hb : bat t = Fin.ofNat 4 (k + 1) := Fin.ext (Nat.mod_eq_of_lt h4).symm
    have hx1 : ∀ o l, iblk2 V c 1 t (ix2 o l) = (wo o l : EReal) := fun o l => (block1 V c t o l).trans (hw o l)
    have hx0 : ∀ o n, iblk2 V c 0 t (ix3 (0 : Fin 1) o n) = (a (bat t) o n : EReal) := fun o n => (block0 V c t o n).trans (ha _ o n)
    have e := outsAt2_B V c t (show ¬(k + 1) % 4 = 0 by omega)
    have e2 := congrArg Prod.snd e
    dsimp only at e2
    rw [show outsAt2 V c (k + 1) hk = outsAt2 V c t.val t.isLt from rfl, e2]
    have ih' := ih (by omega)
    constructor
    · rw [out_B_3_col0]
      refine (Blocks.outproj_sum (s := fun o => upto (fun b => ∑ n, act wo a b o n) k) hx1 hx0 (fun o => ?_) o).trans ?_
      · show (outsAt2 V c k _).2 (col0.emb _) = _
        rw [emb_col0]; exact (ih' o).1
      · rw [hb, upto, upto, Finset.sum_range_succ _ (k + 1)]
    · rw [out_B_3_col1]
      refine (Blocks.outproj_sumsq (s := fun o => upto (fun b => ∑ n, act wo a b o n * act wo a b o n) k) hx1 hx0 (fun o => ?_) o).trans ?_
      · show (outsAt2 V c k _).2 (col1.emb _) = _
        rw [emb_col1]; exact (ih' o).2
      · rw [hb, upto, upto, Finset.sum_range_succ _ (k + 1)]

/-- The array of the sums and the sums of squares over all batches and points. -/
abbrev sumsArr (y : Spec.Batch) (c : Dev nD) : Buf (Elt Ideal) ((c : Thread nD τ).loc main_v7_1) :=
  fun i => if (i 1).val = 0 then ((∑ b, ∑ n, y b (i 0) n : ℝ) : EReal) else ((∑ b, ∑ n, y b (i 0) n * y b (i 0) n : ℝ) : EReal)

/-- What each point writes back to the first array. -/
theorem flushed_act (ha : ∀ b o n, V c main_v6 (ix3 b o n) = (a b o n : EReal)) (hw : ∀ o l, V c main_arg5 (ix2 o l) = (wo o l : EReal))
    (t : Fin cfg2.N) : (dat2 V c).flushed 2 t = ((cfg2.win 2).blk t).view.read (Elt Ideal) (actArr wo a c) := by
  show (cfg2.win 2).cut (grid2.coords t) ((dat2 V c).after 2 t) = _
  rw [after2_2]
  funext j
  rw [View.read_apply]
  obtain ⟨o, n, rfl⟩ : ∃ (o n : Fin 1024), j = ix3 (0 : Fin 1) o n := ⟨j 1, j 2, ix_one j⟩
  rw [emb_out2]
  exact after_act V ha hw t o n

/-- What the last point writes back to the second. -/
theorem flushed_sums (ha : ∀ b o n, V c main_v6 (ix3 b o n) = (a b o n : EReal)) (hw : ∀ o l, V c main_arg5 (ix2 o l) = (wo o l : EReal))
    (t : Fin cfg2.N) (h3 : t.val = 3) : (dat2 V c).flushed 3 t = ((cfg2.win 3).blk t).view.read (Elt Ideal) (sumsArr (act wo a) c) := by
  show (cfg2.win 3).cut (grid2.coords t) ((dat2 V c).after 3 t) = _
  rw [after2_3]
  funext j
  rw [View.read_apply]
  obtain ⟨o, l, rfl⟩ : ∃ (o : Fin 1024) (l : Fin 2), j = ix2 o l := ⟨j 0, j 1, funext fun a => by
    match a with
    | ⟨0, _⟩ => rfl
    | ⟨1, _⟩ => rfl⟩
  rw [emb_out3]
  obtain ⟨k, hk⟩ := t
  change k = 3 at h3
  subst h3
  have := after_sums V ha hw 3 hk o
  rw [upto_three, upto_three] at this
  match l with
  | ⟨0, _⟩ => exact this.1
  | ⟨1, _⟩ => exact this.2

/-- The first array's blocks tile it. -/
theorem cover2 (i : S4x1024x1024.Idx) : ∃ t : Fin cfg2.N, (cfg2.win 2).flush t = true ∧ i ∈ ((cfg2.win 2).blk t).view.set := by
  have h0 : (i 0 : Nat) < 4 := (i 0).isLt
  refine ⟨⟨(i 0).val, by rw [show cfg2.N = 4 from N_2]; exact h0⟩, flush2_2 _, ?_⟩
  refine Finset.mem_map.mpr ⟨ix3 (0 : Fin 1) (i 1) (i 2), Finset.mem_univ _, ?_⟩
  refine (emb_out2 _ _ _).trans (funext fun a => Fin.ext ?_)
  match a with
  | ⟨0, _⟩ => rfl
  | ⟨1, _⟩ => rfl
  | ⟨2, _⟩ => rfl

/-- The last point writes all of the second array. -/
theorem cover3 (i : S1024x2.Idx) : ∃ t : Fin cfg2.N, (cfg2.win 3).flush t = true ∧ i ∈ ((cfg2.win 3).blk t).view.set := by
  refine ⟨⟨3, by rw [show cfg2.N = 4 from N_2]; omega⟩, (flush2_3 _).mpr rfl, ?_⟩
  refine Finset.mem_map.mpr ⟨ix2 (i 0) (i 1), Finset.mem_univ _, ?_⟩
  refine (emb_out3 _ _ _).trans (funext fun a => Fin.ext ?_)
  match a with
  | ⟨0, _⟩ => rfl
  | ⟨1, _⟩ => rfl

/-- The projection kernel's first result array holds the projected activations, -/
theorem act_eq (ha : ∀ b o n, V c main_v6 (ix3 b o n) = (a b o n : EReal)) (hw : ∀ o l, V c main_arg5 (ix2 o l) = (wo o l : EReal)) :
    (dat2 V c).arrAt 2 cfg2.N = actArr wo a c :=
  (dat2 V c).arrAt_eq_of_cover 2 (actArr wo a c) (fun t _ => flushed_act V ha hw t) cover2

/-- and its second the sums and the sums of squares. -/
theorem sums_eq (ha : ∀ b o n, V c main_v6 (ix3 b o n) = (a b o n : EReal)) (hw : ∀ o l, V c main_arg5 (ix2 o l) = (wo o l : EReal)) :
    (dat2 V c).arrAt 3 cfg2.N = sumsArr (act wo a) c :=
  (dat2 V c).arrAt_eq_of_cover 3 (sumsArr (act wo a) c) (fun t h => flushed_sums V ha hw t (by
    have h3 := (flush2_3 t).mp h
    have hN : t.val < 4 := Nat.lt_of_lt_of_eq t.isLt N_2
    omega)) cover3

end Cert.KernelIdeal.ProjArr

end
-- ==== Proof.NormArr.lean ====
/- What the normalization kernel's result array holds: the normalized activations. -/
module

public import proofs.«01_k».proof.Proof.Blocks
public import proofs.«01_k».proof.Proof.Gen.KernelIdeal.Frame

@[expose] public section

noncomputable section

namespace Cert.KernelIdeal.NormArr

open Cert.KernelIdeal Cert.KernelIdeal.Gen Idealize.ShloMosaic Idealize.ShloMosaic.TcCoe
open Cert.KernelIdeal.Blocks (ix_one)
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b))

/-- Point `t` of the grid is batch `t`: each window's block index there. -/
theorem idx0 : ∀ t : Fin cfg3.N, win3_0.index t 0 = t.val ∧ win3_0.index t 1 = 0 ∧ win3_0.index t 2 = 0 := by decide +kernel
theorem idx1 : ∀ t : Fin cfg3.N, win3_1.index t 0 = 0 ∧ win3_1.index t 1 = 0 := by decide +kernel
theorem idx2 : ∀ t : Fin cfg3.N, win3_2.index t 0 = 0 ∧ win3_2.index t 1 = 0 := by decide +kernel
theorem idx3 : ∀ t : Fin cfg3.N, win3_3.index t 0 = 0 ∧ win3_3.index t 1 = 0 := by decide +kernel
theorem idx4 : ∀ t : Fin cfg3.N, win3_4.index t 0 = t.val ∧ win3_4.index t 1 = 0 ∧ win3_4.index t 2 = 0 := by decide +kernel

/-- The batch of a point. -/
def bat (t : Fin cfg3.N) : Fin 4 := ⟨t.val, Nat.lt_of_lt_of_eq t.isLt N_3⟩

/-- The input blocks: of the activations, -/
theorem block0 (c : Dev nD) (t : Fin cfg3.N) (o n : Fin 1024) :
    iblk3 V c 0 t (ix3 (0 : Fin 1) o n) = V c main_v7_0 (ix3 (bat t) o n) := by
  unfold iblk3
  rw [View.read_apply]
  show V c main_v7_0 _ = _
  congr 1; funext a; apply Fin.ext
  obtain ⟨e0, e1, e2⟩ := idx0 t
  match a with
  | ⟨0, _⟩ => show win3_0.index t 0 * 1 + 1 * 0 = t.val; omega
  | ⟨1, _⟩ => show win3_0.index t 1 * 1024 + 1 * o.val = o.val; omega
  | ⟨2, _⟩ => show win3_0.index t 2 * 1024 + 1 * n.val = n.val; omega
/-- of the sums, -/
theorem block1 (c : Dev nD) (t : Fin cfg3.N) (o : Fin 1024) (l : Fin 2) :
    iblk3 V c 1 t (ix2 o l) = V c main_v7_1 (ix2 o l) := by
  unfold iblk3
  rw [View.read_apply]
  show V c main_v7_1 _ = _
  congr 1; funext a; apply Fin.ext
  obtain ⟨e0, e1⟩ := idx1 t
  match a with
  | ⟨0, _⟩ => show win3_1.index t 0 * 1024 + 1 * o.val = o.val; omega
  | ⟨1, _⟩ => show win3_1.index t 1 * 2 + 1 * l.val = l.val; omega
/-- of gamma, -/
theorem block2 (c : Dev nD) (t : Fin cfg3.N) (o : Fin 1024) :
    iblk3 V c 2 t (ix2 o (0 : Fin 1)) = V c main_v8 (ix2 o (0 : Fin 1)) := by
  unfold iblk3
  rw [View.read_apply]
  show V c main_v8 _ = _
  congr 1; funext a; apply Fin.ext
  obtain ⟨e0, e1⟩ := idx2 t
  match a with
  | ⟨0, _⟩ => show win3_2.index t 0 * 1024 + 1 * o.val = o.val; omega
  | ⟨1, _⟩ => show win3_2.index t 1 * 1 + 1 * 0 = 0; omega
/-- of beta. -/
theorem block3 (c : Dev nD) (t : Fin cfg3.N) (o : Fin 1024) :
    iblk3 V c 3 t (ix2 o (0 : Fin 1)) = V c main_v9 (ix2 o (0 : Fin 1)) := by
  unfold iblk3
  rw [View.read_apply]
  show V c main_v9 _ = _
  congr 1; funext a; apply Fin.ext
  obtain ⟨e0, e1⟩ := idx3 t
  match a with
  | ⟨0, _⟩ => show win3_3.index t 0 * 1024 + 1 * o.val = o.val; omega
  | ⟨1, _⟩ => show win3_3.index t 1 * 1 + 1 * 0 = 0; omega

/-- Where element `(0, o, n)` of the output block lies in the array. -/
theorem emb_out (t : Fin cfg3.N) (o n : Fin 1024) :
    ((cfg3.win 4).blk t).view.emb (ix3 (0 : Fin 1) o n) = ix3 (bat t) o n := by
  funext a; apply Fin.ext
  obtain ⟨e0, e1, e2⟩ := idx4 t
  match a with
  | ⟨0, _⟩ => show win3_4.index t 0 * 1 + 1 * 0 = t.val; omega
  | ⟨1, _⟩ => show win3_4.index t 1 * 1024 + 1 * o.val = o.val; omega
  | ⟨2, _⟩ => show win3_4.index t 2 * 1024 + 1 * n.val = n.val; omega

/-- The two columns of the sums, as the body loads them. -/
theorem ld_col0 (x : Vec Ideal S1024x2 .f32) (o : Fin 1024) : View.ld x r3_0 (ix2 o (0 : Fin 1)) = x (ix2 o (0 : Fin 2)) :=
  congrArg x (funext fun a => Fin.ext (match a with
    | ⟨0, _⟩ => by show 0 + 1 * o.val = o.val; omega
    | ⟨1, _⟩ => rfl))
theorem ld_col1 (x : Vec Ideal S1024x2 .f32) (o : Fin 1024) : View.ld x r3_1 (ix2 o (0 : Fin 1)) = x (ix2 o (1 : Fin 2)) :=
  congrArg x (funext fun a => Fin.ext (match a with
    | ⟨0, _⟩ => by show 0 + 1 * o.val = o.val; omega
    | ⟨1, _⟩ => rfl))

/-- The array of the normalized activations. -/
abbrev normArr (y : Spec.Batch) (g : Fin 1024 → ℝ) (β : Fin 1024 → EReal) (c : Dev nD) : Buf (Elt Ideal) ((c : Thread nD τ).loc main_v10) :=
  fun i => Consts.normalized y g β (i 0) (i 1) (i 2)

/-- What each point writes back is its block of the normalized activations. -/
theorem flushed_eq {y : Spec.Batch} {g : Fin 1024 → ℝ} {β : Fin 1024 → EReal} {c : Dev nD}
    (hy : ∀ b o n, V c main_v7_0 (ix3 b o n) = (y b o n : EReal))
    (h0 : ∀ o, V c main_v7_1 (ix2 o (0 : Fin 2)) = ((∑ b, ∑ n, y b o n : ℝ) : EReal))
    (h1 : ∀ o, V c main_v7_1 (ix2 o (1 : Fin 2)) = ((∑ b, ∑ n, y b o n * y b o n : ℝ) : EReal))
    (hg : ∀ o, V c main_v8 (ix2 o (0 : Fin 1)) = (g o : EReal)) (hβ : ∀ o, V c main_v9 (ix2 o (0 : Fin 1)) = β o)
    (t : Fin cfg3.N) :
    (dat3 V c).flushed 4 t = ((cfg3.win 4).blk t).view.read (Elt Ideal) (normArr y g β c) := by
  show (cfg3.win 4).cut (grid3.coords t) ((dat3 V c).after 4 t) = _
  rw [after3_4]
  unfold out3_4
  rw [View.canon_unit_zero hz3, View.ld_unit_zero (S := S1024x1) hz2, View.ld_unit_zero (S := S1024x1) hz2, View.ld_unit_zero (S := S1x1024x1024) hz3]
  funext j
  rw [View.read_apply]
  obtain ⟨o, n, rfl⟩ : ∃ (o n : Fin 1024), j = ix3 (0 : Fin 1) o n := ⟨j 1, j 2, ix_one j⟩
  rw [emb_out]
  exact Blocks.norm_block (bat t) (fun o => (ld_col0 _ o).trans ((block1 V c t o 0).trans (h0 o)))
    (fun o => (ld_col1 _ o).trans ((block1 V c t o 1).trans (h1 o))) (fun o => (block2 V c t o).trans (hg o))
    (fun o => (block3 V c t o).trans (hβ o)) (fun o n => (block0 V c t o n).trans (hy _ _ _)) o n

/-- The blocks tile the array. -/
theorem cover (i : S4x1024x1024.Idx) : ∃ t : Fin cfg3.N, (cfg3.win 4).flush t = true ∧ i ∈ ((cfg3.win 4).blk t).view.set := by
  have h0 : (i 0 : Nat) < 4 := (i 0).isLt
  refine ⟨⟨(i 0).val, by rw [show cfg3.N = 4 from N_3]; exact h0⟩, flush3_4 _, ?_⟩
  refine Finset.mem_map.mpr ⟨ix3 (0 : Fin 1) (i 1) (i 2), Finset.mem_univ _, ?_⟩
  refine (emb_out _ _ _).trans (funext fun a => Fin.ext ?_)
  match a with
  | ⟨0, _⟩ => rfl
  | ⟨1, _⟩ => rfl
  | ⟨2, _⟩ => rfl

/-- The normalization kernel's result array holds the normalized activations. -/
theorem norm_eq {y : Spec.Batch} {g : Fin 1024 → ℝ} {β : Fin 1024 → EReal} {c : Dev nD}
    (hy : ∀ b o n, V c main_v7_0 (ix3 b o n) = (y b o n : EReal))
    (h0 : ∀ o, V c main_v7_1 (ix2 o (0 : Fin 2)) = ((∑ b, ∑ n, y b o n : ℝ) : EReal))
    (h1 : ∀ o, V c main_v7_1 (ix2 o (1 : Fin 2)) = ((∑ b, ∑ n, y b o n * y b o n : ℝ) : EReal))
    (hg : ∀ o, V c main_v8 (ix2 o (0 : Fin 1)) = (g o : EReal)) (hβ : ∀ o, V c main_v9 (ix2 o (0 : Fin 1)) = β o) :
    (dat3 V c).arrAt 4 cfg3.N = normArr y g β c :=
  (dat3 V c).arrAt_eq_of_cover 4 (normArr y g β c) (fun t _ => flushed_eq V hy h0 h1 hg hβ t) cover

end Cert.KernelIdeal.NormArr

end
-- ==== Proof.KernelRun.lean ====
/- What the kernel's program computes: its run with the result array named, and that array's contents. -/
module

public import proofs.«01_k».proof.Proof.CountArr
public import proofs.«01_k».proof.Proof.AttnArr
public import proofs.«01_k».proof.Proof.ProjArr
public import proofs.«01_k».proof.Proof.NormArr
public import Idealize.ShloMosaic.Lib.StableHlo.Run

@[expose] public section

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (l : Loc nD τ sig) → Buf (Elt Ideal) l) (ρ : Dev nD → PrngReg)

section Contents

variable {m ρ} {c : Dev nD} {wq wk wv wo : Spec.Mat} {x : Spec.Batch} {e : Spec.Edges} {g : Fin 1024 → ℝ}

/-- The input, transposed by the host, -/
theorem V1_xT (hx : ∀ b j n, m ((c : Thread nD τ).loc main_arg0) (ix3 b j n) = (x b j n : EReal)) (b : Fin 4) (n j : Fin 1024) :
    V1 m ρ c main_v0 (ix3 b n j) = (x b j n : EReal) := by
  have h : W1 m ρ c (Proc.devRef .tc main_v0) = transpose S4x1024x1024 [0, 2, 1] (W0 m ρ c (Proc.devRef .tc main_arg0)) transposes_S4x1024x1024_S4x1024x1024_0_2_1 := by
    show StableHlo.after hostOps0 (W0 m ρ c) (Proc.devRef .tc main_v0) = _
    after_results
  show W1 m ρ c (Proc.devRef .tc main_v0) (ix3 b n j) = _
  rw [h]
  exact (transpose_apply _ _ _ _ (ix3 b j n) fun a => match a with
    | ⟨0, _⟩ => rfl
    | ⟨1, _⟩ => rfl
    | ⟨2, _⟩ => rfl).trans (hx b j n)
/-- the edges likewise, -/
theorem V1_eT (hE : ∀ b n k, m ((c : Thread nD τ).loc main_arg1) (ix3 b n k) = BitVec.ofNat 32 (e b n k).val) (b : Fin 4) (k : Fin 16) (n : Fin 1024) :
    V1 m ρ c main_v1 (ix3 b k n) = BitVec.ofNat 32 (e b n k).val := by
  have h : W1 m ρ c (Proc.devRef .tc main_v1) = transpose S4x16x1024 [0, 2, 1] (W0 m ρ c (Proc.devRef .tc main_arg1)) transposes_S4x1024x16_S4x16x1024_0_2_1 := by
    show StableHlo.after hostOps0 (W0 m ρ c) (Proc.devRef .tc main_v1) = _
    after_results
  show W1 m ρ c (Proc.devRef .tc main_v1) (ix3 b k n) = _
  rw [h]
  exact (transpose_apply _ _ _ _ (ix3 b n k) fun a => match a with
    | ⟨0, _⟩ => rfl
    | ⟨1, _⟩ => rfl
    | ⟨2, _⟩ => rfl).trans (hE b n k)
/-- the query weights, scaled, -/
theorem V1_wq (hq : ∀ o j, m ((c : Thread nD τ).loc main_arg2) (ix2 o j) = (wq o j : EReal)) (o j : Fin 1024) :
    V1 m ρ c main_v3 (ix2 o j) = ((wq o j * (1 / 8) : ℝ) : EReal) := by
  have h : W1 m ρ c (Proc.devRef .tc main_v3) = mulf (W0 m ρ c (Proc.devRef .tc main_arg2)) (broadcastInDim S1024x1024 ![] bcast_S_S1024x1024 (constant (F := Ideal) S_ .f32 0x3E000000#32)) := by
    show StableHlo.after hostOps0 (W0 m ρ c) (Proc.devRef .tc main_v3) = _
    after_results
  show W1 m ρ c (Proc.devRef .tc main_v3) (ix2 o j) = _
  rw [h]
  refine (congrArg₂ (fun a b : EReal => a * b) (hq o j) Consts.eighth).trans ?_
  rw [← EReal.coe_mul]
/-- and the key weights, transposed, are what the attention kernel finds. -/
theorem V1_wk (hk : ∀ o j, m ((c : Thread nD τ).loc main_arg3) (ix2 o j) = (wk o j : EReal)) (o j : Fin 1024) :
    V1 m ρ c main_v4 (ix2 j o) = (wk o j : EReal) := by
  have h : W1 m ρ c (Proc.devRef .tc main_v4) = transpose S1024x1024 [1, 0] (W0 m ρ c (Proc.devRef .tc main_arg3)) transposes_S1024x1024_S1024x1024_1_0 := by
    show StableHlo.after hostOps0 (W0 m ρ c) (Proc.devRef .tc main_v4) = _
    after_results
  show W1 m ρ c (Proc.devRef .tc main_v4) (ix2 j o) = _
  rw [h]
  exact (transpose_apply _ _ _ _ (ix2 o j) fun a => match a with
    | ⟨0, _⟩ => rfl
    | ⟨1, _⟩ => rfl).trans (hk o j)
/-- The scale of the normalization, as a column. -/
theorem V5_gamma (hg : ∀ o, m ((c : Thread nD τ).loc main_arg6) (ix1 o) = (g o : EReal)) (o : Fin 1024) :
    V5 m ρ c main_v8 (ix2 o (0 : Fin 1)) = (g o : EReal) := by
  have h : W5 m ρ c (Proc.devRef .tc main_v8) = broadcastInDim S1024x1 ![0] bcast_S1024_S1024x1_0 (W4 m ρ c (Proc.devRef .tc main_arg6)) := by
    show StableHlo.after hostOps3 (W4 m ρ c) (Proc.devRef .tc main_v8) = _
    after_results
  show W5 m ρ c (Proc.devRef .tc main_v8) (ix2 o (0 : Fin 1)) = _
  rw [h, W4_args m ρ c main_arg6 (by decide)]
  exact (broadcastInDim_apply _ _ _ _ (ix1 o) fun a => match a with
    | ⟨0, _⟩ => rfl).trans (hg o)
/-- Its shift, as a column. -/
theorem V5_beta (o : Fin 1024) :
    V5 m ρ c main_v9 (ix2 o (0 : Fin 1)) = m ((c : Thread nD τ).loc main_arg7) (ix1 o) := by
  have h : W5 m ρ c (Proc.devRef .tc main_v9) = broadcastInDim S1024x1 ![0] bcast_S1024_S1024x1_0 (W4 m ρ c (Proc.devRef .tc main_arg7)) := by
    show StableHlo.after hostOps3 (W4 m ρ c) (Proc.devRef .tc main_v9) = _
    after_results
  show W5 m ρ c (Proc.devRef .tc main_v9) (ix2 o (0 : Fin 1)) = _
  rw [h, W4_args m ρ c main_arg7 (by decide)]
  exact broadcastInDim_apply _ _ _ _ (ix1 o) fun a => match a with
    | ⟨0, _⟩ => rfl

/-- The attention array holds the sparse attention: the counts of the edges turn the dense rows into it. -/
theorem V3_att (hx : ∀ b j n, m ((c : Thread nD τ).loc main_arg0) (ix3 b j n) = (x b j n : EReal))
    (hE : ∀ b n k, m ((c : Thread nD τ).loc main_arg1) (ix3 b n k) = BitVec.ofNat 32 (e b n k).val)
    (hq : ∀ o j, m ((c : Thread nD τ).loc main_arg2) (ix2 o j) = (wq o j : EReal))
    (hk : ∀ o j, m ((c : Thread nD τ).loc main_arg3) (ix2 o j) = (wk o j : EReal))
    (hv : ∀ o j, m ((c : Thread nD τ).loc main_arg4) (ix2 o j) = (wv o j : EReal))
    (hs : ∀ b h n k, Spec.score wq wk x b h (e b n k) n ≤ 60) (b : Fin 4) (h n : Fin 1024) :
    V3 m ρ c main_v6 (ix3 b h n) = (Spec.att wq wk wv x e b h n : EReal) := by
  have hC : V2 m ρ c main_v5 = CountArr.counts e c :=
    (W2_arr m ρ c 1).trans (CountArr.counts_eq (V1 m ρ) e c (V1_eT hE))
  have keep : ∀ r : Ref sig .tc, (∀ w : Fin cfg0.W, Pipeline.arrRef spec0 w = r → (cfg0.win w).isOut = false) →
      V2 m ρ c r = V1 m ρ c r := fun r hr => W2_of m ρ c r hr
  have hA := AttnArr.att_eq (V2 m ρ) (wq := fun o j => wq o j * (1 / 8)) (wk := wk) (wv := wv) (x := x) (e := e) (c := c)
    (fun b j n => (congrFun (W2_args m ρ c main_arg0 (by decide)) _).trans (hx b j n))
    (fun b n j => (congrFun (keep main_v0 (by decide)) _).trans (V1_xT hx b n j))
    (fun o j => (congrFun (keep main_v3 (by decide)) _).trans (V1_wq hq o j))
    (fun j o => (congrFun (keep main_v4 (by decide)) _).trans (V1_wk hk o j))
    (fun o j => (congrFun (W2_args m ρ c main_arg4 (by decide)) _).trans (hv o j))
    (fun b n k => congrFun hC _)
  refine (congrFun ((W3_arr m ρ c 6).trans hA) _).trans ?_
  show ((AttnArr.dense _ wk wv x e b h n : ℝ) : EReal) = _
  rw [AttnArr.dense_eq wq wk wv x e b h n (hs b h n)]

/-- The result array holds the normalized projection of the sparse attention. -/
theorem result (hx : ∀ b j n, m ((c : Thread nD τ).loc main_arg0) (ix3 b j n) = (x b j n : EReal))
    (hE : ∀ b n k, m ((c : Thread nD τ).loc main_arg1) (ix3 b n k) = BitVec.ofNat 32 (e b n k).val)
    (hq : ∀ o j, m ((c : Thread nD τ).loc main_arg2) (ix2 o j) = (wq o j : EReal))
    (hk : ∀ o j, m ((c : Thread nD τ).loc main_arg3) (ix2 o j) = (wk o j : EReal))
    (hv : ∀ o j, m ((c : Thread nD τ).loc main_arg4) (ix2 o j) = (wv o j : EReal))
    (ho : ∀ o j, m ((c : Thread nD τ).loc main_arg5) (ix2 o j) = (wo o j : EReal))
    (hg : ∀ o, m ((c : Thread nD τ).loc main_arg6) (ix1 o) = (g o : EReal))
    (hs : ∀ b h n k, Spec.score wq wk x b h (e b n k) n ≤ 60) :
    W6 m ρ c (Proc.devRef .tc main_v10)
      = NormArr.normArr (Spec.proj wo (Spec.att wq wk wv x e)) g (fun o => m ((c : Thread nD τ).loc main_arg7) (ix1 o)) c := by
  have ha := V3_att (ρ := ρ) hx hE hq hk hv hs
  have hw : ∀ o l, V3 m ρ c main_arg5 (ix2 o l) = (wo o l : EReal) := fun o l =>
    (congrFun (W3_args m ρ c main_arg5 (by decide)) _).trans (ho o l)
  have keep : ∀ r : Ref sig .tc, r ∉ hostOps3_W → V5 m ρ c r = V4 m ρ c r := fun r hr => W5_of m ρ c r hr
  have hY := (keep main_v7_0 (by decide)).trans ((W4_arr m ρ c 2).trans (ProjArr.act_eq (V3 m ρ) ha hw))
  have hS := (keep main_v7_1 (by decide)).trans ((W4_arr m ρ c 3).trans (ProjArr.sums_eq (V3 m ρ) ha hw))
  exact (W6_arr m ρ c 4).trans (NormArr.norm_eq (V5 m ρ) (fun b o n => congrFun hY _) (fun o => congrFun hS _) (fun o => congrFun hS _)
    (V5_gamma hg) V5_beta)

end Contents

set_option backward.isDefEq.respectTransparency.types false in
/-- Every run of the program ends with the result array at the contents above and the arguments as launched. -/
theorem run : θ_run defs (onTc (τ := τ) (main (F := Ideal))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v10 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Result

end
-- ==== Proof.RefScores.lean ====
/- What the reference computes up to its scores: the projections by head, the gathered neighbours, the scaled scores. -/
module

public import proofs.«01_k».proof.Proof.Consts
public import proofs.«01_k».proof.Proof.Gen.ReferenceIdeal.Read
public import Idealize.ShloMosaic.Lib.Pointwise

@[expose] public section

noncomputable section

namespace Cert.ReferenceIdeal.Scores

open Cert.ReferenceIdeal Cert.ReferenceIdeal.Read Idealize.ShloMosaic
open scoped BigOperators

/-- Channel `d` of head `h`. -/
def chan (h : Fin 16) (d : Fin 64) : Fin 1024 := ⟨64 * h.val + d.val, by have := h.isLt; have := d.isLt; omega⟩
/-- The head of a channel, -/
def headOf (c : Fin 1024) : Fin 16 := ⟨c.val / 64, by have := c.isLt; omega⟩
/-- its place in the head, -/
def placeOf (c : Fin 1024) : Fin 64 := ⟨c.val % 64, Nat.mod_lt _ (by decide)⟩
/-- and the channel back from the two. -/
theorem chan_of (c : Fin 1024) : chan (headOf c) (placeOf c) = c := Fin.ext (Nat.div_add_mod c.val 64)
/-- The channels of a channel's head are those of the head. -/
theorem hd_of (c : Fin 1024) (d : Fin 64) : Spec.hd c d = chan (headOf c) d := rfl
/-- The same for a channel given by its head. -/
theorem hd_chan (h : Fin 16) (d d' : Fin 64) : Spec.hd (chan h d) d' = chan h d' := by
  apply Fin.ext
  show 64 * ((64 * h.val + d.val) / 64) + d'.val = 64 * h.val + d'.val
  have := d.isLt; omega

/-- The scaled score of two points in head `h`. -/
def hscore (wq wk : Spec.Mat) (x : Spec.Batch) (b : Fin 4) (h : Fin 16) (m n : Fin 1024) : ℝ :=
  (∑ d : Fin 64, Spec.proj wq x b (chan h d) n * Spec.proj wk x b (chan h d) m) / 8

/-- A channel's score is its head's. -/
theorem score_eq (wq wk : Spec.Mat) (x : Spec.Batch) (b : Fin 4) (c m n : Fin 1024) :
    Spec.score wq wk x b c m n = hscore wq wk x b (headOf c) m n := rfl
/-- The same for a channel given by its head. -/
theorem score_chan (wq wk : Spec.Mat) (x : Spec.Batch) (b : Fin 4) (h : Fin 16) (d : Fin 64) (m n : Fin 1024) :
    Spec.score wq wk x b (chan h d) m n = hscore wq wk x b h m n := by
  unfold Spec.score hscore; simp only [hd_chan]

/-- The words of the indices below 1024 are not negative, -/
theorem not_neg : ∀ m : Fin 1024, IntOp.cmpi .slt (BitVec.ofNat 32 m.val) 0#32 = 0#1 := by decide +kernel
/-- and read signed they are the indices. -/
theorem toInt_word : ∀ m : Fin 1024, (BitVec.ofNat 32 m.val).toInt.toNat = m.val := by decide +kernel

section Gather
variable {α : Type}

/-- The gather at an index: the operand's row that the index array names, in the same batch and head. -/
theorem gather_at (x : S4x16x1024x64.Idx → α) (idx : IVec S4x1024x16x1 32) (b : Fin 4) (h : Fin 16) (n : Fin 1024) (k : Fin 16)
    (d : Fin 64) (m : Fin 1024) (hm : idx (ix4 b n k (0 : Fin 1)) = BitVec.ofNat 32 m.val) :
    Host.gather gather_S4x16x1024x64_S4x1024x16x1_S4x16x1024x16x64_14_2_0_0_2_3_116164 x idx (ix5 b h n k d) = x (ix4 b h m d) := by
  unfold Host.gather
  refine congrArg x (funext fun a => Fin.ext ?_)
  show GatherDims.start _ _ idx a + GatherDims.batchCoord _ _ a + GatherDims.offCoord _ _ a = _
  match a with
  | ⟨0, _⟩ => exact Nat.zero_add _
  | ⟨1, _⟩ => exact Nat.zero_add _
  | ⟨2, _⟩ =>
    have hi : GatherDims.start gather_S4x16x1024x64_S4x1024x16x1_S4x16x1024x16x64_14_2_0_0_2_3_116164 (ix5 b h n k d) idx 2 = m.val := by
      unfold GatherDims.start
      rw [dif_pos (show (2 : Fin S4x16x1024x64.rank) ∈ gather_S4x16x1024x64_S4x1024x16x1_S4x16x1024x16x64_14_2_0_0_2_3_116164.startIndexMap from
        List.mem_singleton.mpr rfl)]
      have hs : GatherDims.siIdx gather_S4x16x1024x64_S4x1024x16x1_S4x16x1024x16x64_14_2_0_0_2_3_116164 (ix5 b h n k d)
          ⟨List.idxOf 2 [2], by decide⟩ = ix4 b n k (0 : Fin 1) := by
        funext a; apply Fin.ext
        match a with
        | ⟨0, _⟩ => rfl
        | ⟨1, _⟩ => rfl
        | ⟨2, _⟩ => rfl
        | ⟨3, _⟩ => rfl
      refine (congrArg (fun w : BitVec 32 => min w.toInt.toNat (1024 - 1)) ((congrArg idx hs).trans hm)).trans ?_
      show min (BitVec.ofNat 32 m.val).toInt.toNat 1023 = m.val
      rw [toInt_word]; have := m.isLt; omega
    exact congrArg (· + 0 + 0) hi
  | ⟨3, _⟩ => exact Nat.zero_add _

end Gather

variable {x0 : (⟨S4x1024x1024, .f32⟩ : BufTy).Contents (Elt Ideal)} {x1 : (⟨S4x1024x16, .i32⟩ : BufTy).Contents (Elt Ideal)}
  {x2 x3 x4 : (⟨S1024x1024, .f32⟩ : BufTy).Contents (Elt Ideal)}
  {x : Spec.Batch} {e : Spec.Edges} {wq wk wv : Spec.Mat}

/-- Where the split into heads reads the projection. -/
theorem split_idx (b : Fin 4) (h : Fin 16) (d : Fin 64) (n : Fin 1024) :
    idx_main_v1 (idx_main_v2 (ix4 b h d n)) = ix3 b n (chan h d) := by
  have hb := b.isLt; have hh := h.isLt; have hd := d.isLt; have hn := n.isLt
  funext a; apply Fin.ext
  match a with
  | ⟨0, _⟩ =>
    show (((b.val * 16 + h.val) * 64 + d.val) * 1024 + n.val) / 1048576 = b.val
    omega
  | ⟨1, _⟩ =>
    show (((b.val * 16 + h.val) * 64 + d.val) * 1024 + n.val) % 1024 = n.val
    omega
  | ⟨2, _⟩ =>
    show (((b.val * 16 + h.val) * 64 + d.val) * 1024 + n.val) / 1024 % 1024 = 64 * h.val + d.val
    omega

/-- A projection, split into heads. -/
theorem heads_eq {w : Spec.Mat} {y : (⟨S1024x1024, .f32⟩ : BufTy).Contents (Elt Ideal)}
    (hx : ∀ b j n, x0 (ix3 b j n) = (x b j n : EReal)) (hw : ∀ o j, y (ix2 o j) = (w o j : EReal))
    (b : Fin 4) (h : Fin 16) (d : Fin 64) (n : Fin 1024) :
    val_main_v2 (F := Ideal) x0 y (ix4 b h d n) = (Spec.proj w x b (chan h d) n : EReal) := by
  rw [val_main_v2_apply, val_main_v1_apply, split_idx, val_main_v0_apply]
  refine (Finset.sum_congr rfl fun j _ => ?_).trans (Spec.coe_sum _ fun j => w (chan h d) j * x b j n)
  have h1 : lidx_main_v0 (ix3 b n (chan h d)) j = ix3 b j n := by
    funext a; match a with | ⟨0, _⟩ => rfl | ⟨1, _⟩ => rfl | ⟨2, _⟩ => rfl
  have h2 : ridx_main_v0 (ix3 b n (chan h d)) j = ix2 (chan h d) j := by
    funext a; match a with | ⟨0, _⟩ => rfl | ⟨1, _⟩ => rfl
  rw [h1, h2]
  refine (congrArg₂ (fun p q : EReal => p * q) (hx b j n) (hw (chan h d) j)).trans ?_
  rw [← EReal.coe_mul, mul_comm]

/-- The index array of the gathers: the neighbours. -/
theorem index_eq (hE : ∀ b n k, x1 (ix3 b n k) = BitVec.ofNat 32 (e b n k).val) (b : Fin 4) (n : Fin 1024) (k : Fin 16) :
    val_main_v17 (F := Ideal) x1 (ix4 b n k (0 : Fin 1)) = BitVec.ofNat 32 (e b n k).val := by
  have hi : idx_main_v17 (ix4 b n k (0 : Fin 1)) = ix3 b n k := by
    funext a; match a with | ⟨0, _⟩ => rfl | ⟨1, _⟩ => rfl | ⟨2, _⟩ => rfl
  rw [val_main_v17_apply, hi, val_main_v16_apply, val_main_v13_apply, val_main_v12_apply, val_main_c_apply, hE, not_neg]
  rfl

/-- The gathered projection: of the neighbour. -/
theorem gathered_eq {w : Spec.Mat} {y : (⟨S1024x1024, .f32⟩ : BufTy).Contents (Elt Ideal)}
    (hx : ∀ b j n, x0 (ix3 b j n) = (x b j n : EReal)) (hE : ∀ b n k, x1 (ix3 b n k) = BitVec.ofNat 32 (e b n k).val)
    (hw : ∀ o j, y (ix2 o j) = (w o j : EReal)) (b : Fin 4) (h : Fin 16) (n : Fin 1024) (k : Fin 16) (d : Fin 64) :
    val_main_v18 (F := Ideal) x0 x1 y (ix5 b h n k d) = (Spec.proj w x b (chan h d) (e b n k) : EReal) := by
  unfold val_main_v18
  rw [gather_at _ _ b h n k d (e b n k) (index_eq hE b n k), val_main_v9_apply]
  have hi : idx_main_v9 (ix4 b h (e b n k) d) = ix4 b h d (e b n k) := by
    funext a; match a with | ⟨0, _⟩ => rfl | ⟨1, _⟩ => rfl | ⟨2, _⟩ => rfl | ⟨3, _⟩ => rfl
  rw [hi]
  exact heads_eq hx hw b h d (e b n k)

/-- The scaled scores of a point and its neighbours. -/
theorem scores_eq (hx : ∀ b j n, x0 (ix3 b j n) = (x b j n : EReal)) (hE : ∀ b n k, x1 (ix3 b n k) = BitVec.ofNat 32 (e b n k).val)
    (hq : ∀ o j, x2 (ix2 o j) = (wq o j : EReal)) (hk : ∀ o j, x3 (ix2 o j) = (wk o j : EReal))
    (b : Fin 4) (h : Fin 16) (n : Fin 1024) (k : Fin 16) :
    val_main_v28 (F := Ideal) x0 x1 x2 x3 (ix4 b h n k) = (hscore wq wk x b h (e b n k) n : EReal) := by
  have hs : val_main_v26 (F := Ideal) x0 x1 x2 x3 (ix4 b h n k)
      = ((∑ d : Fin 64, Spec.proj wq x b (chan h d) n * Spec.proj wk x b (chan h d) (e b n k) : ℝ) : EReal) := by
    rw [val_main_v26_apply]
    refine (Finset.sum_congr rfl fun d _ => ?_).trans
      (Spec.coe_sum _ fun d => Spec.proj wq x b (chan h d) n * Spec.proj wk x b (chan h d) (e b n k))
    have h1 : lidx_main_v26 (ix4 b h n k) d = ix4 b h n d := by
      funext a; match a with | ⟨0, _⟩ => rfl | ⟨1, _⟩ => rfl | ⟨2, _⟩ => rfl | ⟨3, _⟩ => rfl
    have h2 : ridx_main_v26 (ix4 b h n k) d = ix5 b h n k d := by
      funext a; match a with | ⟨0, _⟩ => rfl | ⟨1, _⟩ => rfl | ⟨2, _⟩ => rfl | ⟨3, _⟩ => rfl | ⟨4, _⟩ => rfl
    have h3 : idx_main_v11 (ix4 b h n d) = ix4 b h d n := by
      funext a; match a with | ⟨0, _⟩ => rfl | ⟨1, _⟩ => rfl | ⟨2, _⟩ => rfl | ⟨3, _⟩ => rfl
    rw [h1, h2, val_main_v11_apply, h3]
    refine (congrArg₂ (fun p q : EReal => p * q) (heads_eq hx hq b h d n) (gathered_eq hx hE hk b h n k d)).trans ?_
    rw [← EReal.coe_mul]
  rw [val_main_v28_apply, val_main_v27_apply, val_main_cst_apply, hs]
  show Ideal.div _ (Ideal.ofBits .f32 0x41000000#32) = _
  rw [Consts.eight, Ideal.div_coe (by norm_num)]
  rw [← EReal.coe_mul, mul_one_div]; rfl

end Cert.ReferenceIdeal.Scores

end
-- ==== Proof.RefAtt.lean ====
/- What the reference computes from its scores: the softmax over the neighbours, the attention, the output projection. -/
module

public import proofs.«01_k».proof.Proof.RefScores

@[expose] public section

noncomputable section

namespace Cert.ReferenceIdeal.Att

open Cert.ReferenceIdeal Cert.ReferenceIdeal.Read Cert.ReferenceIdeal.Scores Idealize.ShloMosaic
open scoped BigOperators

/-- A running maximum is at least its start, -/
theorem start_le_fold {ι : Type} (f : ι → EReal) (l : List ι) (a : EReal) : a ≤ l.foldl (fun r i => max r (f i)) a := by
  induction l generalizing a with
  | nil => exact le_rfl
  | cons i l ih => exact (le_max_left _ _).trans (ih _)

/-- at least each element, -/
theorem le_fold {ι : Type} (f : ι → EReal) (l : List ι) (a : EReal) (i : ι) (hi : i ∈ l) :
    f i ≤ l.foldl (fun r i => max r (f i)) a := by
  induction l generalizing a with
  | nil => exact absurd hi List.not_mem_nil
  | cons j l ih =>
    rcases List.mem_cons.mp hi with h | h
    · subst h; exact (le_max_right _ _).trans (start_le_fold f l _)
    · exact ih _ h

/-- and finite if its start and the elements are less than plus infinity. -/
theorem fold_lt {ι : Type} (f : ι → EReal) (l : List ι) (a : EReal) (ha : a < ⊤) (hf : ∀ i, f i < ⊤) :
    l.foldl (fun r i => max r (f i)) a < ⊤ := by
  induction l generalizing a with
  | nil => exact ha
  | cons j l ih => exact ih _ (max_lt ha (hf j))

variable {x0 : (⟨S4x1024x1024, .f32⟩ : BufTy).Contents (Elt Ideal)} {x1 : (⟨S4x1024x16, .i32⟩ : BufTy).Contents (Elt Ideal)}
  {x2 x3 x4 x5 : (⟨S1024x1024, .f32⟩ : BufTy).Contents (Elt Ideal)}
  {x : Spec.Batch} {e : Spec.Edges} {wq wk wv wo : Spec.Mat}

/-- The greatest score of a point's neighbours is a real number. -/
theorem max_real (hx : ∀ b j n, x0 (ix3 b j n) = (x b j n : EReal)) (hE : ∀ b n k, x1 (ix3 b n k) = BitVec.ofNat 32 (e b n k).val)
    (hq : ∀ o j, x2 (ix2 o j) = (wq o j : EReal)) (hk : ∀ o j, x3 (ix2 o j) = (wk o j : EReal))
    (b : Fin 4) (h : Fin 16) (n : Fin 1024) :
    ∃ M : ℝ, val_main_v29 (F := Ideal) x0 x1 x2 x3 (ix3 b h n) = (M : EReal) := by
  have hreal : ∀ i, ∃ r : ℝ, val_main_v28 (F := Ideal) x0 x1 x2 x3 i = (r : EReal) := fun i => by
    rw [eq_ix4 i]; exact ⟨_, scores_eq hx hE hq hk _ _ _ _⟩
  unfold val_main_v29
  unfold Host.reduce
  have hlt : ∀ l : List (Fin S4x16x1024x16.numel), l.foldl (fun r i => max r (val_main_v28 (F := Ideal) x0 x1 x2 x3 (S4x16x1024x16.rowMajor.symm i)))
      (⊥ : EReal) < ⊤ := fun l => fold_lt _ l _ bot_lt_top fun i => by
    obtain ⟨r, hr⟩ := hreal (S4x16x1024x16.rowMajor.symm i)
    rw [hr]; exact EReal.coe_lt_top r
  have hbot : (val_main_cst_3 (F := Ideal)) (Shape.Idx.first Gen.h_S_) = (⊥ : EReal) := Consts.negInf
  rw [hbot]
  refine ⟨EReal.toReal _, (EReal.coe_toReal (hlt _).ne ?_).symm⟩
  refine (lt_of_lt_of_le ?_ (le_fold (fun i => val_main_v28 (F := Ideal) x0 x1 x2 x3 (S4x16x1024x16.rowMajor.symm i)) _ ⊥
    (S4x16x1024x16.rowMajor (ix4 b h n (0 : Fin 16))) (List.mem_filter.mpr ⟨List.mem_finRange _, decide_eq_true ?_⟩))).ne'
  · rw [Equiv.symm_apply_apply, scores_eq hx hE hq hk]
    exact EReal.bot_lt_coe _
  · rw [Equiv.symm_apply_apply]
    funext a; match a with | ⟨0, _⟩ => rfl | ⟨1, _⟩ => rfl | ⟨2, _⟩ => rfl

/-- The weights of a point's neighbours, for some shift of the scores. -/
theorem weights_eq (hx : ∀ b j n, x0 (ix3 b j n) = (x b j n : EReal)) (hE : ∀ b n k, x1 (ix3 b n k) = BitVec.ofNat 32 (e b n k).val)
    (hq : ∀ o j, x2 (ix2 o j) = (wq o j : EReal)) (hk : ∀ o j, x3 (ix2 o j) = (wk o j : EReal))
    (b : Fin 4) (h : Fin 16) (n : Fin 1024) :
    ∃ M : ℝ, ∀ k, val_main_v39 (F := Ideal) x0 x1 x2 x3 (ix4 b h n k)
      = ((Real.exp (hscore wq wk x b h (e b n k) n - M) / ∑ k', Real.exp (hscore wq wk x b h (e b n k') n - M) : ℝ) : EReal) := by
  obtain ⟨M, hM⟩ := max_real hx hE hq hk b h n
  refine ⟨M, ?_⟩
  have hexp : ∀ k, val_main_v35 (F := Ideal) x0 x1 x2 x3 (ix4 b h n k)
      = ((Real.exp (hscore wq wk x b h (e b n k) n - M) : ℝ) : EReal) := fun k => by
    have h1 : idx_main_v32 (idx_main_v33 (ix4 b h n k)) = ix3 b h n := by
      funext a; match a with | ⟨0, _⟩ => rfl | ⟨1, _⟩ => rfl | ⟨2, _⟩ => rfl
    have h2 : val_main_v33 (F := Ideal) x0 x1 x2 x3 (ix4 b h n k) = (M : EReal) := by
      rw [val_main_v33_apply, val_main_v32_apply, h1, val_main_v31_apply, val_main_v30_apply, val_main_cst_4_apply, hM]
      show max (Ideal.ofBits .f32 0xFF800000#32) (M : EReal) = M
      rw [Consts.negInf]; exact max_eq_right bot_le
    rw [val_main_v35_apply, val_main_v34_apply, h2, scores_eq hx hE hq hk]
    show Ideal.exp (((hscore wq wk x b h (e b n k) n : ℝ) : EReal) - (M : EReal)) = _
    rw [← EReal.coe_sub]; rfl
  have hsum : val_main_v36 (F := Ideal) x0 x1 x2 x3 (ix3 b h n)
      = ((∑ k', Real.exp (hscore wq wk x b h (e b n k') n - M) : ℝ) : EReal) := by
    rw [val_main_v36_apply, val_main_cst_5_apply]
    show Ideal.ofBits .f32 0x00000000#32 + _ = _
    rw [Ideal.ofBits_zero_f32, zero_add, ← Spec.coe_sum]
    refine Finset.sum_congr rfl fun k _ => ?_
    have h1 : idx_main_v36 (ix3 b h n) k = ix4 b h n k := by
      funext a; match a with | ⟨0, _⟩ => rfl | ⟨1, _⟩ => rfl | ⟨2, _⟩ => rfl | ⟨3, _⟩ => rfl
    rw [h1]; exact hexp k
  intro k
  have h1 : idx_main_v37 (idx_main_v38 (ix4 b h n k)) = ix3 b h n := by
    funext a; match a with | ⟨0, _⟩ => rfl | ⟨1, _⟩ => rfl | ⟨2, _⟩ => rfl
  rw [val_main_v39_apply, val_main_v38_apply, val_main_v37_apply, h1, hexp, hsum]
  show Ideal.div _ _ = _
  rw [Ideal.div_coe (Finset.sum_pos (fun k _ => Real.exp_pos _) Finset.univ_nonempty).ne', ← EReal.coe_mul, mul_one_div]

/-- The attention, by head. -/
theorem heads_att (hx : ∀ b j n, x0 (ix3 b j n) = (x b j n : EReal)) (hE : ∀ b n k, x1 (ix3 b n k) = BitVec.ofNat 32 (e b n k).val)
    (hq : ∀ o j, x2 (ix2 o j) = (wq o j : EReal)) (hk : ∀ o j, x3 (ix2 o j) = (wk o j : EReal))
    (hv : ∀ o j, x4 (ix2 o j) = (wv o j : EReal)) (b : Fin 4) (h : Fin 16) (n : Fin 1024) (d : Fin 64) :
    val_main_v40 (F := Ideal) x0 x1 x2 x3 x4 (ix4 b h n d) = (Spec.att wq wk wv x e b (chan h d) n : EReal) := by
  obtain ⟨M, hM⟩ := weights_eq hx hE hq hk b h n
  have hatt : Spec.att wq wk wv x e b (chan h d) n
      = ∑ k, Spec.proj wv x b (chan h d) (e b n k) * (Real.exp (hscore wq wk x b h (e b n k) n - M)
          / ∑ k', Real.exp (hscore wq wk x b h (e b n k') n - M)) := by
    unfold Spec.att; simp only [score_chan]
    exact (Spec.softmax_shift (fun k => hscore wq wk x b h (e b n k) n) (fun k => Spec.proj wv x b (chan h d) (e b n k)) M).symm
  rw [val_main_v40_apply, hatt, ← Spec.coe_sum]
  refine Finset.sum_congr rfl fun k _ => ?_
  have h1 : lidx_main_v40 (ix4 b h n d) k = ix4 b h n k := by
    funext a; match a with | ⟨0, _⟩ => rfl | ⟨1, _⟩ => rfl | ⟨2, _⟩ => rfl | ⟨3, _⟩ => rfl
  have h2 : ridx_main_v40 (ix4 b h n d) k = ix5 b h n k d := by
    funext a; match a with | ⟨0, _⟩ => rfl | ⟨1, _⟩ => rfl | ⟨2, _⟩ => rfl | ⟨3, _⟩ => rfl | ⟨4, _⟩ => rfl
  have h3 : val_main_v25 (F := Ideal) x0 x1 x4 = val_main_v18 (F := Ideal) x0 x1 x4 := rfl
  rw [h1, h2, h3]
  refine (congrArg₂ (fun p q : EReal => p * q) (hM k) (gathered_eq hx hE hv b h n k d)).trans ?_
  rw [← EReal.coe_mul, mul_comm]

/-- Where the merge of the heads reads. -/
theorem merge_idx (b : Fin 4) (c n : Fin 1024) :
    idx_main_v41 (idx_main_v42 (ix3 b c n)) = ix4 b (headOf c) n (placeOf c) := by
  have hb := b.isLt; have hc := c.isLt; have hn := n.isLt
  funext a; apply Fin.ext
  match a with
  | ⟨0, _⟩ => show ((b.val * 1024 + c.val) * 1024 + n.val) / 1048576 = b.val; omega
  | ⟨1, _⟩ => show ((b.val * 1024 + c.val) * 1024 + n.val) / 65536 % 16 = c.val / 64; omega
  | ⟨2, _⟩ => show ((b.val * 1024 + c.val) * 1024 + n.val) % 1024 = n.val; omega
  | ⟨3, _⟩ => show ((b.val * 1024 + c.val) * 1024 + n.val) / 1024 % 64 = c.val % 64; omega

/-- The attention, the heads merged. -/
theorem att_eq (hx : ∀ b j n, x0 (ix3 b j n) = (x b j n : EReal)) (hE : ∀ b n k, x1 (ix3 b n k) = BitVec.ofNat 32 (e b n k).val)
    (hq : ∀ o j, x2 (ix2 o j) = (wq o j : EReal)) (hk : ∀ o j, x3 (ix2 o j) = (wk o j : EReal))
    (hv : ∀ o j, x4 (ix2 o j) = (wv o j : EReal)) (b : Fin 4) (c n : Fin 1024) :
    val_main_v42 (F := Ideal) x0 x1 x2 x3 x4 (ix3 b c n) = (Spec.att wq wk wv x e b c n : EReal) := by
  rw [val_main_v42_apply, val_main_v41_apply, merge_idx, heads_att hx hE hq hk hv, chan_of]

/-- The activations: the output projection of the attention. -/
theorem act_eq (hx : ∀ b j n, x0 (ix3 b j n) = (x b j n : EReal)) (hE : ∀ b n k, x1 (ix3 b n k) = BitVec.ofNat 32 (e b n k).val)
    (hq : ∀ o j, x2 (ix2 o j) = (wq o j : EReal)) (hk : ∀ o j, x3 (ix2 o j) = (wk o j : EReal))
    (hv : ∀ o j, x4 (ix2 o j) = (wv o j : EReal)) (ho : ∀ o j, x5 (ix2 o j) = (wo o j : EReal)) (b : Fin 4) (o n : Fin 1024) :
    val_main_v44 (F := Ideal) x0 x1 x2 x3 x4 x5 (ix3 b o n) = (Spec.proj wo (Spec.att wq wk wv x e) b o n : EReal) := by
  have hi : idx_main_v44 (ix3 b o n) = ix3 b n o := by
    funext a; match a with | ⟨0, _⟩ => rfl | ⟨1, _⟩ => rfl | ⟨2, _⟩ => rfl
  rw [val_main_v44_apply, hi, val_main_v43_apply]
  refine (Finset.sum_congr rfl fun j _ => ?_).trans (Spec.coe_sum _ fun j => wo o j * Spec.att wq wk wv x e b j n)
  have h1 : lidx_main_v43 (ix3 b n o) j = ix3 b j n := by
    funext a; match a with | ⟨0, _⟩ => rfl | ⟨1, _⟩ => rfl | ⟨2, _⟩ => rfl
  have h2 : ridx_main_v43 (ix3 b n o) j = ix2 o j := by
    funext a; match a with | ⟨0, _⟩ => rfl | ⟨1, _⟩ => rfl
  rw [h1, h2]
  refine (congrArg₂ (fun p q : EReal => p * q) (att_eq hx hE hq hk hv b j n) (ho o j)).trans ?_
  rw [← EReal.coe_mul, mul_comm]

end Cert.ReferenceIdeal.Att

end
-- ==== Proof.RefValue.lean ====
/- What the reference computes: the activations normalized over batches and points, scaled, shifted and made leaky. -/
module

public import proofs.«01_k».proof.Proof.RefAtt

@[expose] public section

noncomputable section

namespace Cert.ReferenceIdeal.RefValue

open Cert.ReferenceIdeal Cert.ReferenceIdeal.Read Idealize.ShloMosaic
open scoped BigOperators

/-- The host's sum over batches and points, at a channel. -/
theorem sum_channel (v : S4x1024x1024.Idx → EReal) (init : EReal) (o : Fin 1024) :
    Ideal.hostReduceAdd Gen.reducesTo_S4x1024x1024_S1024_d0_2 v init (ix1 o) = init + ∑ b : Fin 4, ∑ n : Fin 1024, v (ix3 b o n) := by
  unfold Ideal.hostReduceAdd
  refine congrArg (init + ·) ?_
  rw [← Fintype.sum_prod_type' (f := fun (b : Fin 4) (n : Fin 1024) => v (ix3 b o n))]
  have hmid : ∀ i : S4x1024x1024.Idx, Shape.ReducesTo.drop Gen.reducesTo_S4x1024x1024_S1024_d0_2 i = ix1 o ↔ i 1 = o := fun i =>
    ⟨fun h => congrFun h 0, fun h => by funext a; match a with | ⟨0, _⟩ => exact h⟩
  refine Finset.sum_nbij' (fun i => (i 0, i 2)) (fun p => ix3 p.1 o p.2) (fun _ _ => Finset.mem_univ _) ?_ ?_ (fun _ _ => rfl) ?_
  · intro p _
    exact Finset.mem_filter.mpr ⟨Finset.mem_univ _, (hmid _).mpr rfl⟩
  · intro i hi
    have h := (hmid i).mp (Finset.mem_filter.mp hi).2
    subst h; exact ix3_eta i
  · intro i hi
    have h := (hmid i).mp (Finset.mem_filter.mp hi).2
    subst h; exact congrArg v (ix3_eta i).symm

variable {x0 : (⟨S4x1024x1024, .f32⟩ : BufTy).Contents (Elt Ideal)} {x1 : (⟨S4x1024x16, .i32⟩ : BufTy).Contents (Elt Ideal)}
  {x2 x3 x4 x5 : (⟨S1024x1024, .f32⟩ : BufTy).Contents (Elt Ideal)} {x6 x7 : (⟨S1024, .f32⟩ : BufTy).Contents (Elt Ideal)}
  {y : Spec.Batch} {g : Fin 1024 → ℝ}

/-- A channel's index in the arrays with one batch and one point. -/
abbrev row (o : Fin 1024) : S1x1024x1.Idx := ix3 (0 : Fin 1) o (0 : Fin 1)

/-- The mean of a channel. -/
theorem mean_eq (hy : ∀ b o n, val_main_v44 (F := Ideal) x0 x1 x2 x3 x4 x5 (ix3 b o n) = (y b o n : EReal)) (o : Fin 1024) :
    val_main_v48 (F := Ideal) x0 x1 x2 x3 x4 x5 (row o) = (Spec.mean y o : EReal) := by
  have hs : val_main_v45 (F := Ideal) x0 x1 x2 x3 x4 x5 (ix1 o) = ((∑ b, ∑ n, y b o n : ℝ) : EReal) := by
    unfold val_main_v45
    refine (sum_channel (val_main_v44 (F := Ideal) x0 x1 x2 x3 x4 x5) (Ideal.ofBits .f32 0x00000000#32) o).trans ?_
    rw [Ideal.ofBits_zero_f32, zero_add, ← Spec.coe_sum]
    refine Finset.sum_congr rfl fun b _ => ?_
    rw [← Spec.coe_sum]
    exact Finset.sum_congr rfl fun n _ => hy b o n
  have hi : idx_main_v46 (row o) = ix1 o := by
    funext a; match a with | ⟨0, _⟩ => rfl
  rw [val_main_v48_apply, val_main_v46_apply, val_main_v47_apply, val_main_cst_7_apply, hi, hs]
  show Ideal.div _ (Ideal.ofBits .f32 0x45800000#32) = _
  rw [Consts.count, Ideal.div_coe (by norm_num), ← EReal.coe_mul, mul_one_div]; rfl

/-- The deviation of an activation from its channel's mean. -/
theorem dev_eq (hy : ∀ b o n, val_main_v44 (F := Ideal) x0 x1 x2 x3 x4 x5 (ix3 b o n) = (y b o n : EReal)) (b : Fin 4) (o n : Fin 1024) :
    val_main_v50 (F := Ideal) x0 x1 x2 x3 x4 x5 (ix3 b o n) = ((y b o n - Spec.mean y o : ℝ) : EReal) := by
  have hi : idx_main_v49 (ix3 b o n) = row o := by
    funext a; match a with | ⟨0, _⟩ => rfl | ⟨1, _⟩ => rfl | ⟨2, _⟩ => rfl
  rw [val_main_v50_apply, val_main_v49_apply, hi, mean_eq hy, hy]
  exact (EReal.coe_sub _ _).symm

/-- The variance of a channel. -/
theorem var_eq (hy : ∀ b o n, val_main_v44 (F := Ideal) x0 x1 x2 x3 x4 x5 (ix3 b o n) = (y b o n : EReal)) (o : Fin 1024) :
    val_main_v57 (F := Ideal) x0 x1 x2 x3 x4 x5 (row o) = (Spec.var y o : EReal) := by
  have hs : val_main_v54 (F := Ideal) x0 x1 x2 x3 x4 x5 (ix1 o)
      = ((∑ b, ∑ n, (y b o n - Spec.mean y o) * (y b o n - Spec.mean y o) : ℝ) : EReal) := by
    unfold val_main_v54
    refine (sum_channel (val_main_v53 (F := Ideal) x0 x1 x2 x3 x4 x5) (Ideal.ofBits .f32 0x00000000#32) o).trans ?_
    rw [Ideal.ofBits_zero_f32, zero_add, ← Spec.coe_sum]
    refine Finset.sum_congr rfl fun b _ => ?_
    rw [← Spec.coe_sum]
    refine Finset.sum_congr rfl fun n _ => ?_
    rw [val_main_v53_apply]
    refine (congrArg₂ (fun p q : EReal => p * q) (dev_eq hy b o n) (dev_eq hy b o n)).trans ?_
    rw [← EReal.coe_mul]
  have hi : idx_main_v55 (row o) = ix1 o := by
    funext a; match a with | ⟨0, _⟩ => rfl
  rw [val_main_v57_apply, val_main_v55_apply, val_main_v56_apply, val_main_cst_9_apply, hi, hs]
  show Ideal.div _ (Ideal.ofBits .f32 0x45800000#32) = _
  rw [Consts.count, Ideal.div_coe (by norm_num), ← EReal.coe_mul, mul_one_div]; rfl

/-- The root of the variance plus the small number. -/
theorem root_eq (hy : ∀ b o n, val_main_v44 (F := Ideal) x0 x1 x2 x3 x4 x5 (ix3 b o n) = (y b o n : EReal)) (o : Fin 1024) :
    val_main_v62 (F := Ideal) x0 x1 x2 x3 x4 x5 (row o) = (Real.sqrt (Spec.var y o + Consts.eps) : EReal) := by
  rw [val_main_v62_apply, val_main_v61_apply, val_main_v60_apply, val_main_cst_10_apply, var_eq hy]
  show Ideal.sqrt (((Spec.var y o : ℝ) : EReal) + Ideal.ofBits .f32 0x3727C5AC#32) = _
  rw [Consts.eps_eq, ← EReal.coe_add]
  exact if_neg (not_lt.mpr (add_nonneg (Spec.var_nonneg y o) Consts.eps_pos.le))

/-- The result, given the activations. -/
theorem result_of_act (hy : ∀ b o n, val_main_v44 (F := Ideal) x0 x1 x2 x3 x4 x5 (ix3 b o n) = (y b o n : EReal))
    (hg : ∀ o, x6 (ix1 o) = (g o : EReal)) (b : Fin 4) (o n : Fin 1024) :
    val_main_v75 (F := Ideal) x0 x1 x2 x3 x4 x5 x6 x7 (ix3 b o n) = Consts.normalized y g (fun o => x7 (ix1 o)) b o n := by
  have hr : Real.sqrt (Spec.var y o + Consts.eps) ≠ 0 :=
    (Real.sqrt_pos.mpr (add_pos_of_nonneg_of_pos (Spec.var_nonneg y o) Consts.eps_pos)).ne'
  have hi63 : idx_main_v63 (ix3 b o n) = row o := by
    funext a; match a with | ⟨0, _⟩ => rfl | ⟨1, _⟩ => rfl | ⟨2, _⟩ => rfl
  have hi66 : idx_main_v65 (idx_main_v66 (ix3 b o n)) = ix1 o := by
    funext a; match a with | ⟨0, _⟩ => rfl
  have hi69 : idx_main_v68 (idx_main_v69 (ix3 b o n)) = ix1 o := by
    funext a; match a with | ⟨0, _⟩ => rfl
  have h59 : val_main_v59 (F := Ideal) x0 x1 x2 x3 x4 x5 = val_main_v50 (F := Ideal) x0 x1 x2 x3 x4 x5 := rfl
  have h64 : val_main_v64 (F := Ideal) x0 x1 x2 x3 x4 x5 (ix3 b o n)
      = (((y b o n - Spec.mean y o) * (Real.sqrt (Spec.var y o + Consts.eps))⁻¹ : ℝ) : EReal) := by
    rw [val_main_v64_apply, h59, dev_eq hy, val_main_v63_apply, hi63, root_eq hy]
    show Ideal.div _ _ = _
    rw [Ideal.div_coe hr, ← EReal.coe_mul, one_div]
  have h70 : val_main_v70 (F := Ideal) x0 x1 x2 x3 x4 x5 x6 x7 (ix3 b o n)
      = (((y b o n - Spec.mean y o) * (Real.sqrt (Spec.var y o + Consts.eps))⁻¹ * g o : ℝ) : EReal) + x7 (ix1 o) := by
    rw [val_main_v70_apply, val_main_v69_apply, val_main_v68_apply, hi69, val_main_v67_apply, val_main_v66_apply, val_main_v65_apply, hi66]
    refine congrArg (fun p : EReal => p + x7 (ix1 o)) ?_
    refine (congrArg₂ (fun p q : EReal => p * q) h64 (hg o)).trans ?_
    rw [← EReal.coe_mul]
  rw [val_main_v75_apply, val_main_v74_apply, val_main_v73_apply, val_main_cst_12_apply, val_main_v72_apply, val_main_v71_apply,
    val_main_cst_11_apply, h70]
  unfold Consts.normalized Consts.leaky
  generalize (((y b o n - Spec.mean y o) * (Real.sqrt (Spec.var y o + Consts.eps))⁻¹ * g o : ℝ) : EReal) + x7 (ix1 o) = z
  show Scalar.select (BitVec.ofBool (decide (Ideal.ofBits .f32 0x00000000#32 ≤ z))) z (Consts.slope * z) = _
  rw [Ideal.ofBits_zero_f32]
  by_cases h : 0 ≤ z
  · rw [if_pos h, decide_eq_true h]; rfl
  · rw [if_neg h, decide_eq_false h]; rfl

/-- The reference's result: the normalized activations of the attention over the neighbours. -/
theorem result {x : Spec.Batch} {e : Spec.Edges} {wq wk wv wo : Spec.Mat}
    (hx : ∀ b j n, x0 (ix3 b j n) = (x b j n : EReal)) (hE : ∀ b n k, x1 (ix3 b n k) = BitVec.ofNat 32 (e b n k).val)
    (hq : ∀ o j, x2 (ix2 o j) = (wq o j : EReal)) (hk : ∀ o j, x3 (ix2 o j) = (wk o j : EReal))
    (hv : ∀ o j, x4 (ix2 o j) = (wv o j : EReal)) (ho : ∀ o j, x5 (ix2 o j) = (wo o j : EReal))
    (hg : ∀ o, x6 (ix1 o) = (g o : EReal)) :
    val_main_v75 (F := Ideal) x0 x1 x2 x3 x4 x5 x6 x7
      = fun i => Consts.normalized (Spec.proj wo (Spec.att wq wk wv x e)) g (fun o => x7 (ix1 o)) (i 0) (i 1) (i 2) := by
  funext i
  have h := result_of_act (x7 := x7) (Att.act_eq hx hE hq hk hv ho) hg (i 0) (i 1) (i 2)
  exact (congrArg (val_main_v75 (F := Ideal) x0 x1 x2 x3 x4 x5 x6 x7) (eq_ix3 i)).trans h

end Cert.ReferenceIdeal.RefValue

end
-- ==== Proof.Pre.lean ====
/- What the precondition says of the arguments: the floats that it bounds are real numbers, the edges name points, and the
   neighbours' scores are at most sixty. -/
module

public import proofs.«01_k».proof.Proof.RefScores
public import proofs.«01_k».proof.Proof.Gen.Pre_in_range

@[expose] public section

noncomputable section

namespace Cert.Pre_in_range.Decode

open Cert.Pre_in_range Idealize.ShloMosaic
open scoped BigOperators

/-- Both sides of a true conjunction are true. -/
theorem both : ∀ {a b : BitVec 1}, IntOp.andi a b = 1#1 → a = 1#1 ∧ b = 1#1 := by decide

/-- The same for the single element of two arrays. -/
theorem both_at {v w : IVec S_ 1} {j : S_.Idx} (h : andi v w j = 1#1) : v j = 1#1 ∧ w j = 1#1 := both h

/-- A conjunction over a list that is true was true at its start and at each element. -/
theorem all_of_fold {ι : Type} (f : ι → BitVec 1) (l : List ι) (a : BitVec 1)
    (h : l.foldl (fun r i => IntOp.andi r (f i)) a = 1#1) : a = 1#1 ∧ ∀ i ∈ l, f i = 1#1 := by
  induction l generalizing a with
  | nil => exact ⟨h, fun _ hi => absurd hi List.not_mem_nil⟩
  | cons j l ih =>
    obtain ⟨h1, h2⟩ := ih _ h
    refine ⟨(both h1).1, fun i hi => ?_⟩
    rcases List.mem_cons.mp hi with e | e
    · subst e; exact (both h1).2
    · exact h2 i e

/-- A conjunction over a whole array that is true is true at each element. -/
theorem all_of_reduce {s : Shape} {axes : List (Fin s.rank)} (v : IVec s 1) (init : IVec S_ 1) (h : s.ReducesTo axes S_)
    (hu : 0 < S_.numel) (j : S_.Idx) (e : Host.reduce IntOp.andi v init h hu j = 1#1) (i : s.Idx) : v i = 1#1 := by
  have hm := (all_of_fold (fun n => v (s.rowMajor.symm n)) _ _ e).2 (s.rowMajor i)
    (List.mem_filter.mpr ⟨List.mem_finRange _, decide_eq_true (funext fun a => a.elim0)⟩)
  rwa [Equiv.symm_apply_apply] at hm

/-- A decision whose bit is one holds. -/
theorem holds_of_bit {p : Prop} [Decidable p] (h : BitVec.ofBool (decide p) = 1#1) : p := by
  by_contra hn
  rw [decide_eq_false hn] at h
  exact absurd h (by decide)

/-- A value whose absolute value is less than plus infinity is a real number. -/
theorem real_of_abs (a : EReal) (h : BitVec.ofBool (decide (max a (-a) < Ideal.ofBits .f32 0x7F800000#32)) = 1#1) :
    ∃ r : ℝ, a = (r : EReal) := by
  have hl := holds_of_bit h
  rw [Consts.posInf] at hl
  obtain ⟨h1, h2⟩ := max_lt_iff.mp hl
  refine ⟨a.toReal, (EReal.coe_toReal h1.ne ?_).symm⟩
  rintro rfl
  exact absurd h2 (by simp)

/-- A word between 0 and 1023, read signed, is the word of an index below 1024. -/
theorem word_of_range (w : BitVec 32) (h0 : IntOp.cmpi .sge w 0#32 = 1#1) (h1 : IntOp.cmpi .slt w 1024#32 = 1#1) :
    ∃ m : Fin 1024, w = BitVec.ofNat 32 m.val := by
  have hb : ∀ {b : Bool}, BitVec.ofBool b = 1#1 → b = true := by decide
  have g0 : (0#32).toInt ≤ w.toInt := BitVec.sle_iff_toInt_le.mp (hb h0)
  have g1 : w.toInt < (1024#32).toInt := BitVec.slt_iff_toInt_lt.mp (hb h1)
  have e0 : (0#32).toInt = 0 := by decide
  have e1 : (1024#32).toInt = 1024 := by decide
  rw [e0] at g0
  rw [e1] at g1
  have hc := BitVec.toInt_eq_toNat_cond w
  have hw := w.isLt
  refine ⟨⟨w.toNat, ?_⟩, (by simp)⟩
  split at hc <;> omega

/-- An array of rank three of real numbers. -/
theorem reals3 {n0 n1 n2 : Nat} (a : (⟨3, ![n0, n1, n2]⟩ : Shape).Idx → EReal) (h : ∀ i, ∃ r : ℝ, a i = (r : EReal)) :
    ∃ x : Fin n0 → Fin n1 → Fin n2 → ℝ, ∀ i j k, a (ix3 i j k) = (x i j k : EReal) :=
  ⟨fun i j k => (h (ix3 i j k)).choose, fun i j k => (h (ix3 i j k)).choose_spec⟩
/-- The same of rank two, -/
theorem reals2 {n0 n1 : Nat} (a : (⟨2, ![n0, n1]⟩ : Shape).Idx → EReal) (h : ∀ i, ∃ r : ℝ, a i = (r : EReal)) :
    ∃ x : Fin n0 → Fin n1 → ℝ, ∀ i j, a (ix2 i j) = (x i j : EReal) :=
  ⟨fun i j => (h (ix2 i j)).choose, fun i j => (h (ix2 i j)).choose_spec⟩
/-- and of rank one. -/
theorem reals1 {n0 : Nat} (a : (⟨1, ![n0]⟩ : Shape).Idx → EReal) (h : ∀ i, ∃ r : ℝ, a i = (r : EReal)) :
    ∃ x : Fin n0 → ℝ, ∀ i, a (ix1 i) = (x i : EReal) :=
  ⟨fun i => (h (ix1 i)).choose, fun i => (h (ix1 i)).choose_spec⟩

variable {a0 : FVec Ideal S4x1024x1024 .f32} {a1 : IVec S4x1024x16 32} {a2 a3 a4 a5 : FVec Ideal S1024x1024 .f32}
  {a6 a7 : FVec Ideal S1024 .f32}

/-- The precondition, element by element. -/
theorem elements (h : fn (F := Ideal) a0 a1 a2 a3 a4 a5 a6 a7 = fun _ => 1#1) :
    (∀ i, ∃ r : ℝ, a0 i = (r : EReal)) ∧ (∀ i, ∃ m : Fin 1024, a1 i = BitVec.ofNat 32 m.val)
      ∧ (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal))
      ∧ ∀ i, (Cert.ReferenceIdeal.Read.val_main_v28 (F := Ideal) a0 a1 a2 a3 i : EReal) ≤ ((60 : ℝ) : EReal) := by
  have h := congrFun h (fun a => a.elim0)
  simp only [fn, fn_part1, fn_part2, fn_part3] at h
  obtain ⟨h, hs⟩ := both_at h
  obtain ⟨h, h6⟩ := both_at h
  obtain ⟨h, h5⟩ := both_at h
  obtain ⟨h, h4⟩ := both_at h
  obtain ⟨h, h3⟩ := both_at h
  obtain ⟨h, h2⟩ := both_at h
  obtain ⟨h, h0⟩ := both_at h
  obtain ⟨hl, hu⟩ := both_at h
  refine ⟨fun i => real_of_abs _ (all_of_reduce _ _ _ _ _ h0 i),
    fun i => word_of_range _ (all_of_reduce _ _ _ _ _ hl i) (all_of_reduce _ _ _ _ _ hu i),
    fun i => real_of_abs _ (all_of_reduce _ _ _ _ _ h2 i), fun i => real_of_abs _ (all_of_reduce _ _ _ _ _ h3 i),
    fun i => real_of_abs _ (all_of_reduce _ _ _ _ _ h4 i), fun i => real_of_abs _ (all_of_reduce _ _ _ _ _ h5 i),
    fun i => real_of_abs _ (all_of_reduce _ _ _ _ _ h6 i), fun i => ?_⟩
  have hb : BitVec.ofBool (decide ((Cert.ReferenceIdeal.Read.val_main_v28 (F := Ideal) a0 a1 a2 a3 i : EReal)
      ≤ Ideal.ofBits .f32 0x42700000#32)) = 1#1 := all_of_reduce _ _ _ _ _ hs i
  exact Consts.sixty ▸ holds_of_bit hb

/-- The precondition in the words of the mathematics: real arguments, edges between points, and every neighbour's score at
    most sixty. -/
theorem decode (h : fn (F := Ideal) a0 a1 a2 a3 a4 a5 a6 a7 = fun _ => 1#1) :
    ∃ (x : Spec.Batch) (e : Spec.Edges) (wq wk wv wo : Spec.Mat) (g : Fin 1024 → ℝ),
      (∀ b j n, a0 (ix3 b j n) = (x b j n : EReal)) ∧ (∀ b n k, a1 (ix3 b n k) = BitVec.ofNat 32 (e b n k).val)
      ∧ (∀ o j, a2 (ix2 o j) = (wq o j : EReal)) ∧ (∀ o j, a3 (ix2 o j) = (wk o j : EReal))
      ∧ (∀ o j, a4 (ix2 o j) = (wv o j : EReal)) ∧ (∀ o j, a5 (ix2 o j) = (wo o j : EReal))
      ∧ (∀ o, a6 (ix1 o) = (g o : EReal)) ∧ ∀ b c n k, Spec.score wq wk x b c (e b n k) n ≤ 60 := by
  obtain ⟨h0, h1, h2, h3, h4, h5, h6, hs⟩ := elements h
  obtain ⟨x, hx⟩ := reals3 a0 h0
  obtain ⟨wq, hq⟩ := reals2 a2 h2
  obtain ⟨wk, hk⟩ := reals2 a3 h3
  obtain ⟨wv, hv⟩ := reals2 a4 h4
  obtain ⟨wo, ho⟩ := reals2 a5 h5
  obtain ⟨g, hg⟩ := reals1 a6 h6
  have hE : ∀ b n k, a1 (ix3 b n k) = BitVec.ofNat 32 ((h1 (ix3 b n k)).choose : Fin 1024).val := fun b n k => (h1 (ix3 b n k)).choose_spec
  refine ⟨x, fun b n k => (h1 (ix3 b n k)).choose, wq, wk, wv, wo, g, hx, hE, hq, hk, hv, ho, hg, fun b c n k => ?_⟩
  have h := hs (ix4 b (Cert.ReferenceIdeal.Scores.headOf c) n k)
  rw [Cert.ReferenceIdeal.Scores.scores_eq (e := fun b n k => (h1 (ix3 b n k)).choose) hx hE hq hk] at h
  rw [Cert.ReferenceIdeal.Scores.score_eq]
  exact EReal.coe_le_coe_iff.mp h

end Cert.Pre_in_range.Decode

end
-- ==== Proof.Equation.lean ====
/- The equation: on arguments in the precondition's range the kernel's result array is the reference's. -/
module

public import proofs.«01_k».proof.Proof.KernelRun
public import proofs.«01_k».proof.Proof.RefValue
public import proofs.«01_k».proof.Proof.Pre

@[expose] public section

noncomputable section

namespace Cert.KernelIdeal.Equation

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

/-- The reference, read at the kernel's arguments, is the array that the kernel's run ends with. -/
theorem equation
    (h : Cert.Pre_in_range.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    Cert.ReferenceIdeal.Read.val_main_v75 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      = W6 m ρ c (Proc.devRef .tc main_v10) := by
  obtain ⟨x, e, wq, wk, wv, wo, g, hx, hE, hq, hk, hv, ho, hg, hs⟩ := Cert.Pre_in_range.Decode.decode h
  exact (Cert.ReferenceIdeal.RefValue.result hx hE hq hk hv ho hg).trans (Result.result hx hE hq hk hv ho hg hs).symm

end Cert.KernelIdeal.Equation

end
-- ==== Proof.lean ====
/- The certificate: the three programs end without a fault with their arguments unchanged, the idealized kernel is the
   kernel, and on arguments in range the idealized kernel and the idealized reference have the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates from every memory, its argument arrays unchanged and every counter at zero: the run that
    computes its result, with the result left out. -/
theorem reference_frame : Cert.quiescent_ReferenceIdeal (hReferenceIdeal := Cert.ReferenceIdeal.Gen.facts) := fun m ρ _ =>
  (θ_run Cert.ReferenceIdeal.defs _ _).mono
    (fun r h => And.intro (fun c => (h c).2) (sem_eq_zero_of_no_sems (by decide) r.2))
    (Cert.ReferenceIdeal.Value.run (F := Ideal) m ρ)

/-- Kernel and reference, run from memories that agree on arguments in range, end with equal result arrays. -/
theorem same_result : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m ρ m' ρ' hpre hargs
  refine ⟨fun c => Cert.KernelIdeal.Gen.W6 m ρ c (Proc.devRef .tc Cert.KernelIdeal.main_v10), Cert.KernelIdeal.Result.run m ρ, ?_⟩
  refine (θ_run Cert.ReferenceIdeal.defs _ _).mono (fun r h c => ⟨?_, (h c).2⟩) (Cert.ReferenceIdeal.Value.run (F := Ideal) m' ρ')
  refine (h c).1.trans ((Cert.ReferenceIdeal.Read.val_main_v75_eq (StableHlo.launchContents m' c)).trans ?_)
  obtain ⟨e0, e1, e2, e3, e4, e5, e6, e7⟩ := hargs c
  have hl : ∀ b, StableHlo.launchContents m' c (Proc.devRef .tc b)
      = m' ((c.tc : Thread Cert.ReferenceIdeal.nD Cert.ReferenceIdeal.τ).loc b) := fun _ => rfl
  rw [hl, hl, hl, hl, hl, hl, hl, hl, e0, e1, e2, e3, e4, e5, e6, e7]
  exact Cert.KernelIdeal.Equation.equation m ρ c (hpre c)

/-- Everything the certificate claims. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_result⟩

end Cert.Proof

end
